-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![2048, 1024]⟩ ⟨2, ![4096, 1024]⟩ (Layout.meshBlock [2, 2] ![[0], []] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨2, ![4096, 512]⟩ ⟨2, ![4096, 1024]⟩ (Layout.meshBlock [2, 2] ![[], [0]] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m ((c.tc : Thread Cert.Kernel.nD Cert.Kernel.τ).loc Cert.Kernel.main_arg0) = Layout.blockN ⟨2, ![2048, 1024]⟩ ⟨2, ![4096, 1024]⟩ (Layout.meshBlock [2, 2] ![[0], []] c) (m' (((0 : Dev Cert.Reference.nD).tc : Thread Cert.Reference.nD Cert.Reference.τ).loc Cert.Reference.main_arg0))) →
    ∃ (v0 : Buf (Elt Bits) (((0 : Dev Cert.Reference.nD).tc : Thread Cert.Reference.nD Cert.Reference.τ).loc Cert.Reference.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1) = Layout.blockN ⟨2, ![4096, 512]⟩ ⟨2, ![4096, 1024]⟩ (Layout.meshBlock [2, 2] ![[], [0]] c) v0
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r =>
          r.2.mem (((0 : Dev Cert.Reference.nD).tc : Thread Cert.Reference.nD Cert.Reference.τ).loc Cert.Reference.main_v0) = v0
          ∧ r.2.mem (((0 : Dev Cert.Reference.nD).tc : Thread Cert.Reference.nD Cert.Reference.τ).loc Cert.Reference.main_arg0) = m' (((0 : Dev Cert.Reference.nD).tc : Thread Cert.Reference.nD Cert.Reference.τ).loc Cert.Reference.main_arg0))

def Claim : Prop :=
  ∃ (hKernel : Cert.Kernel.Facts) (hKernelIdeal : Cert.KernelIdeal.Facts) (hReferenceIdeal : Cert.ReferenceIdeal.Facts) (hReference : Cert.Reference.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
-- ==== Kernel.lean ====
abbrev S2048x1024 : Shape := ⟨2, ![2048, 1024]⟩
abbrev S4096x512 : Shape := ⟨2, ![4096, 512]⟩
abbrev S1024x1024 : Shape := ⟨2, ![1024, 1024]⟩
abbrev S1024x512 : Shape := ⟨2, ![1024, 512]⟩
abbrev S2048x512 : Shape := ⟨2, ![2048, 512]⟩
abbrev S16 : Shape := ⟨1, ![16]⟩
abbrev S_ : Shape := ⟨0, ![]⟩
abbrev S1 : Shape := ⟨1, ![1]⟩
abbrev S64x1024 : Shape := ⟨2, ![64, 1024]⟩
abbrev S64x512 : Shape := ⟨2, ![64, 512]⟩

abbrev nBuf : Space → Nat
  | .hbm => 2
  | .vmem => 6
  | .smem => 0
  | _ => 0

abbrev bufTy : (tb : Table) → Fin (tcTables nBuf tb) → BufTy
  | .hbm, ⟨0, _⟩ => ⟨S2048x1024, .f32⟩
  | .hbm, ⟨1, _⟩ => ⟨S4096x512, .bf16⟩
  | .local _ .vmem, ⟨0, _⟩ => ⟨S1024x1024, .f32⟩
  | .local _ .vmem, ⟨1, _⟩ => ⟨S1024x512, .f32⟩
  | .local _ .vmem, ⟨2, _⟩ => ⟨S2048x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 1 → Bool
  | ⟨0, _⟩ => false
  | _ => false

abbrev dmaSemScoped : Fin 114 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | _ => false

abbrev sig : RefSig :=
  (ofTc nBuf bufTy 1 114 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev barrier0 : Sem sig := 0

abbrev nD : Nat := 4
abbrev τ : Topo := Topo.v7x

variable {F : FTy → Type} [FloatOps F]

abbrev grid0 : Pipeline.Grid := .none

def k0_off1 (d0 : Dev nD) (c0_i32 : BitVec 32) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_4 : BitVec 32 := 1024#32
  let v10 : BitVec 32 := Scalar.muli v5 c1024_i32_4
  let v11 : BitVec 32 := Scalar.addi v10 c0_i32
  let c0_i32_8 : BitVec 32 := 0#32
  ![v11.toNat, 0]
def k0_off2 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1024_i32 : BitVec 32 := 1024#32
  let v8 : BitVec 32 := Scalar.muli v7 c1024_i32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32 : BitVec 32 := 512#32
  let v9 : BitVec 32 := Scalar.muli v2 c512_i32
  ![v8.toNat, v9.toNat]
def k0_dev1 (d0 : Dev nD) : Nat :=
  let c0_i32_74 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_73 : BitVec 32 := 2#32
  let v108 : BitVec 32 := Scalar.muli v6 c2_i32_73
  let v109 : BitVec 32 := Scalar.addi c0_i32_74 v108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_75 : BitVec 32 := 1#32
  let v110 : BitVec 32 := Scalar.muli v5 c1_i32_75
  let v111 : BitVec 32 := Scalar.addi v109 v110
  v111.toNat
def k0_dev2 (d0 : Dev nD) : Nat :=
  let c0_i32_78 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_77 : BitVec 32 := 2#32
  let v112 : BitVec 32 := Scalar.muli v2 c2_i32_77
  let v113 : BitVec 32 := Scalar.addi c0_i32_78 v112
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_79 : BitVec 32 := 1#32
  let v114 : BitVec 32 := Scalar.muli v7 c1_i32_79
  let v115 : BitVec 32 := Scalar.addi v113 v114
  v115.toNat
def k0_off3 (d0 : Dev nD) : Fin 2 → Nat :=
  let c0 : Index := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_87 : BitVec 32 := 512#32
  let v122 : BitVec 32 := Scalar.muli v6 c512_i32_87
  let v123 : Index := Scalar.indexCast v122
  ![0, v123.toNat]
def k0_dev3 (d0 : Dev nD) : Nat :=
  let c0_i32_93 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_92 : BitVec 32 := 2#32
  let v129 : BitVec 32 := Scalar.muli v6 c2_i32_92
  let v130 : BitVec 32 := Scalar.addi c0_i32_93 v129
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_94 : BitVec 32 := 1#32
  let v131 : BitVec 32 := Scalar.muli v5 c1_i32_94
  let v132 : BitVec 32 := Scalar.addi v130 v131
  v132.toNat
def k0_off4 (d0 : Dev nD) : Fin 2 → Nat :=
  let c64 : Index := 64#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_105 : BitVec 32 := 512#32
  let v145 : BitVec 32 := Scalar.muli v6 c512_i32_105
  let v146 : Index := Scalar.indexCast v145
  ![64, v146.toNat]
def k0_dev4 (d0 : Dev nD) : Nat :=
  let c0_i32_111 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_110 : BitVec 32 := 2#32
  let v152 : BitVec 32 := Scalar.muli v6 c2_i32_110
  let v153 : BitVec 32 := Scalar.addi c0_i32_111 v152
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_112 : BitVec 32 := 1#32
  let v154 : BitVec 32 := Scalar.muli v5 c1_i32_112
  let v155 : BitVec 32 := Scalar.addi v153 v154
  v155.toNat
def k0_off5 (d0 : Dev nD) : Fin 2 → Nat :=
  let c128 : Index := 128#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_123 : BitVec 32 := 512#32
  let v168 : BitVec 32 := Scalar.muli v6 c512_i32_123
  let v169 : Index := Scalar.indexCast v168
  ![128, v169.toNat]
def k0_dev5 (d0 : Dev nD) : Nat :=
  let c0_i32_129 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_128 : BitVec 32 := 2#32
  let v175 : BitVec 32 := Scalar.muli v6 c2_i32_128
  let v176 : BitVec 32 := Scalar.addi c0_i32_129 v175
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_130 : BitVec 32 := 1#32
  let v177 : BitVec 32 := Scalar.muli v5 c1_i32_130
  let v178 : BitVec 32 := Scalar.addi v176 v177
  v178.toNat
def k0_off6 (d0 : Dev nD) : Fin 2 → Nat :=
  let c192 : Index := 192#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_141 : BitVec 32 := 512#32
  let v191 : BitVec 32 := Scalar.muli v6 c512_i32_141
  let v192 : Index := Scalar.indexCast v191
  ![192, v192.toNat]
def k0_dev6 (d0 : Dev nD) : Nat :=
  let c0_i32_147 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_146 : BitVec 32 := 2#32
  let v198 : BitVec 32 := Scalar.muli v6 c2_i32_146
  let v199 : BitVec 32 := Scalar.addi c0_i32_147 v198
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_148 : BitVec 32 := 1#32
  let v200 : BitVec 32 := Scalar.muli v5 c1_i32_148
  let v201 : BitVec 32 := Scalar.addi v199 v200
  v201.toNat
def k0_off7 (d0 : Dev nD) : Fin 2 → Nat :=
  let c256 : Index := 256#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_159 : BitVec 32 := 512#32
  let v214 : BitVec 32 := Scalar.muli v6 c512_i32_159
  let v215 : Index := Scalar.indexCast v214
  ![256, v215.toNat]
def k0_dev7 (d0 : Dev nD) : Nat :=
  let c0_i32_165 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_164 : BitVec 32 := 2#32
  let v221 : BitVec 32 := Scalar.muli v6 c2_i32_164
  let v222 : BitVec 32 := Scalar.addi c0_i32_165 v221
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_166 : BitVec 32 := 1#32
  let v223 : BitVec 32 := Scalar.muli v5 c1_i32_166
  let v224 : BitVec 32 := Scalar.addi v222 v223
  v224.toNat
def k0_off8 (d0 : Dev nD) : Fin 2 → Nat :=
  let c320 : Index := 320#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_177 : BitVec 32 := 512#32
  let v237 : BitVec 32 := Scalar.muli v6 c512_i32_177
  let v238 : Index := Scalar.indexCast v237
  ![320, v238.toNat]
def k0_dev8 (d0 : Dev nD) : Nat :=
  let c0_i32_183 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_182 : BitVec 32 := 2#32
  let v244 : BitVec 32 := Scalar.muli v6 c2_i32_182
  let v245 : BitVec 32 := Scalar.addi c0_i32_183 v244
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_184 : BitVec 32 := 1#32
  let v246 : BitVec 32 := Scalar.muli v5 c1_i32_184
  let v247 : BitVec 32 := Scalar.addi v245 v246
  v247.toNat
def k0_off9 (d0 : Dev nD) : Fin 2 → Nat :=
  let c384 : Index := 384#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_195 : BitVec 32 := 512#32
  let v260 : BitVec 32 := Scalar.muli v6 c512_i32_195
  let v261 : Index := Scalar.indexCast v260
  ![384, v261.toNat]
def k0_dev9 (d0 : Dev nD) : Nat :=
  let c0_i32_201 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_200 : BitVec 32 := 2#32
  let v267 : BitVec 32 := Scalar.muli v6 c2_i32_200
  let v268 : BitVec 32 := Scalar.addi c0_i32_201 v267
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_202 : BitVec 32 := 1#32
  let v269 : BitVec 32 := Scalar.muli v5 c1_i32_202
  let v270 : BitVec 32 := Scalar.addi v268 v269
  v270.toNat
def k0_off10 (d0 : Dev nD) : Fin 2 → Nat :=
  let c448 : Index := 448#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_213 : BitVec 32 := 512#32
  let v283 : BitVec 32 := Scalar.muli v6 c512_i32_213
  let v284 : Index := Scalar.indexCast v283
  ![448, v284.toNat]
def k0_dev10 (d0 : Dev nD) : Nat :=
  let c0_i32_219 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_218 : BitVec 32 := 2#32
  let v290 : BitVec 32 := Scalar.muli v6 c2_i32_218
  let v291 : BitVec 32 := Scalar.addi c0_i32_219 v290
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_220 : BitVec 32 := 1#32
  let v292 : BitVec 32 := Scalar.muli v5 c1_i32_220
  let v293 : BitVec 32 := Scalar.addi v291 v292
  v293.toNat
def k0_off11 (d0 : Dev nD) : Fin 2 → Nat :=
  let c512 : Index := 512#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_231 : BitVec 32 := 512#32
  let v306 : BitVec 32 := Scalar.muli v6 c512_i32_231
  let v307 : Index := Scalar.indexCast v306
  ![512, v307.toNat]
def k0_dev11 (d0 : Dev nD) : Nat :=
  let c0_i32_237 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_236 : BitVec 32 := 2#32
  let v313 : BitVec 32 := Scalar.muli v6 c2_i32_236
  let v314 : BitVec 32 := Scalar.addi c0_i32_237 v313
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_238 : BitVec 32 := 1#32
  let v315 : BitVec 32 := Scalar.muli v5 c1_i32_238
  let v316 : BitVec 32 := Scalar.addi v314 v315
  v316.toNat
def k0_off12 (d0 : Dev nD) : Fin 2 → Nat :=
  let c576 : Index := 576#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_249 : BitVec 32 := 512#32
  let v329 : BitVec 32 := Scalar.muli v6 c512_i32_249
  let v330 : Index := Scalar.indexCast v329
  ![576, v330.toNat]
def k0_dev12 (d0 : Dev nD) : Nat :=
  let c0_i32_255 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_254 : BitVec 32 := 2#32
  let v336 : BitVec 32 := Scalar.muli v6 c2_i32_254
  let v337 : BitVec 32 := Scalar.addi c0_i32_255 v336
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_256 : BitVec 32 := 1#32
  let v338 : BitVec 32 := Scalar.muli v5 c1_i32_256
  let v339 : BitVec 32 := Scalar.addi v337 v338
  v339.toNat
def k0_off13 (d0 : Dev nD) : Fin 2 → Nat :=
  let c640 : Index := 640#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_267 : BitVec 32 := 512#32
  let v352 : BitVec 32 := Scalar.muli v6 c512_i32_267
  let v353 : Index := Scalar.indexCast v352
  ![640, v353.toNat]
def k0_dev13 (d0 : Dev nD) : Nat :=
  let c0_i32_273 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_272 : BitVec 32 := 2#32
  let v359 : BitVec 32 := Scalar.muli v6 c2_i32_272
  let v360 : BitVec 32 := Scalar.addi c0_i32_273 v359
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_274 : BitVec 32 := 1#32
  let v361 : BitVec 32 := Scalar.muli v5 c1_i32_274
  let v362 : BitVec 32 := Scalar.addi v360 v361
  v362.toNat
def k0_off14 (d0 : Dev nD) : Fin 2 → Nat :=
  let c704 : Index := 704#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_285 : BitVec 32 := 512#32
  let v375 : BitVec 32 := Scalar.muli v6 c512_i32_285
  let v376 : Index := Scalar.indexCast v375
  ![704, v376.toNat]
def k0_dev14 (d0 : Dev nD) : Nat :=
  let c0_i32_291 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_290 : BitVec 32 := 2#32
  let v382 : BitVec 32 := Scalar.muli v6 c2_i32_290
  let v383 : BitVec 32 := Scalar.addi c0_i32_291 v382
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_292 : BitVec 32 := 1#32
  let v384 : BitVec 32 := Scalar.muli v5 c1_i32_292
  let v385 : BitVec 32 := Scalar.addi v383 v384
  v385.toNat
def k0_off15 (d0 : Dev nD) : Fin 2 → Nat :=
  let c768 : Index := 768#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_303 : BitVec 32 := 512#32
  let v398 : BitVec 32 := Scalar.muli v6 c512_i32_303
  let v399 : Index := Scalar.indexCast v398
  ![768, v399.toNat]
def k0_dev15 (d0 : Dev nD) : Nat :=
  let c0_i32_309 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_308 : BitVec 32 := 2#32
  let v405 : BitVec 32 := Scalar.muli v6 c2_i32_308
  let v406 : BitVec 32 := Scalar.addi c0_i32_309 v405
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_310 : BitVec 32 := 1#32
  let v407 : BitVec 32 := Scalar.muli v5 c1_i32_310
  let v408 : BitVec 32 := Scalar.addi v406 v407
  v408.toNat
def k0_off16 (d0 : Dev nD) : Fin 2 → Nat :=
  let c832 : Index := 832#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_321 : BitVec 32 := 512#32
  let v421 : BitVec 32 := Scalar.muli v6 c512_i32_321
  let v422 : Index := Scalar.indexCast v421
  ![832, v422.toNat]
def k0_dev16 (d0 : Dev nD) : Nat :=
  let c0_i32_327 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_326 : BitVec 32 := 2#32
  let v428 : BitVec 32 := Scalar.muli v6 c2_i32_326
  let v429 : BitVec 32 := Scalar.addi c0_i32_327 v428
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_328 : BitVec 32 := 1#32
  let v430 : BitVec 32 := Scalar.muli v5 c1_i32_328
  let v431 : BitVec 32 := Scalar.addi v429 v430
  v431.toNat
def k0_off17 (d0 : Dev nD) : Fin 2 → Nat :=
  let c896 : Index := 896#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_339 : BitVec 32 := 512#32
  let v444 : BitVec 32 := Scalar.muli v6 c512_i32_339
  let v445 : Index := Scalar.indexCast v444
  ![896, v445.toNat]
def k0_dev17 (d0 : Dev nD) : Nat :=
  let c0_i32_345 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_344 : BitVec 32 := 2#32
  let v451 : BitVec 32 := Scalar.muli v6 c2_i32_344
  let v452 : BitVec 32 := Scalar.addi c0_i32_345 v451
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_346 : BitVec 32 := 1#32
  let v453 : BitVec 32 := Scalar.muli v5 c1_i32_346
  let v454 : BitVec 32 := Scalar.addi v452 v453
  v454.toNat
def k0_off18 (d0 : Dev nD) : Fin 2 → Nat :=
  let c960 : Index := 960#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c512_i32_357 : BitVec 32 := 512#32
  let v467 : BitVec 32 := Scalar.muli v6 c512_i32_357
  let v468 : Index := Scalar.indexCast v467
  ![960, v468.toNat]
def k0_dev18 (d0 : Dev nD) : Nat :=
  let c0_i32_363 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_362 : BitVec 32 := 2#32
  let v474 : BitVec 32 := Scalar.muli v6 c2_i32_362
  let v475 : BitVec 32 := Scalar.addi c0_i32_363 v474
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_364 : BitVec 32 := 1#32
  let v476 : BitVec 32 := Scalar.muli v5 c1_i32_364
  let v477 : BitVec 32 := Scalar.addi v475 v476
  v477.toNat
def k0_off19 (d0 : Dev nD) : Fin 2 → Nat :=
  let c0_370 : Index := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c512_i32_369 : BitVec 32 := 512#32
  let v484 : BitVec 32 := Scalar.muli v2 c512_i32_369
  let v485 : Index := Scalar.indexCast v484
  ![0, v485.toNat]
def k0_off20 (d0 : Dev nD) : Fin 2 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_371 : BitVec 32 := 1024#32
  let v488 : BitVec 32 := Scalar.muli v5 c1024_i32_371
  let v489 : Index := Scalar.indexCast v488
  let c0_372 : Index := 0#32
  ![v489.toNat, 0]
def k0_off21 (d0 : Dev nD) : Fin 2 → Nat :=
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1024_i32_375 : BitVec 32 := 1024#32
  let v496 : BitVec 32 := Scalar.muli v7 c1024_i32_375
  let v497 : Index := Scalar.indexCast v496
  let c0_376 : Index := 0#32
  ![v497.toNat, 0]
def k0_off22 (d0 : Dev nD) : Fin 2 → Nat :=
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2048_i32 : BitVec 32 := 2048#32
  let v501 : BitVec 32 := Scalar.muli v2 c2048_i32
  let c0_i32_377 : BitVec 32 := 0#32
  ![v501.toNat, 0]
def k0_dev19 (d0 : Dev nD) : Nat :=
  let c0_i32_390 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_389 : BitVec 32 := 2#32
  let v511 : BitVec 32 := Scalar.muli v2 c2_i32_389
  let v512 : BitVec 32 := Scalar.addi c0_i32_390 v511
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_391 : BitVec 32 := 1#32
  let v513 : BitVec 32 := Scalar.muli v7 c1_i32_391
  let v514 : BitVec 32 := Scalar.addi v512 v513
  v514.toNat
def k0_off23 (d0 : Dev nD) (c0_i32_398 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_396 : BitVec 32 := 2048#32
  let v521 : BitVec 32 := Scalar.muli v6 c2048_i32_396
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1024_i32_397 : BitVec 32 := 1024#32
  let v522 : BitVec 32 := Scalar.muli v5 c1024_i32_397
  let v523 : BitVec 32 := Scalar.addi v521 v522
  let v524 : BitVec 32 := Scalar.addi v523 c0_i32_398
  let c0_i32_400 : BitVec 32 := 0#32
  ![v524.toNat, 0]
def k0_dev20 (d0 : Dev nD) : Nat :=
  let c0_i32_415 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_414 : BitVec 32 := 2#32
  let v537 : BitVec 32 := Scalar.muli v2 c2_i32_414
  let v538 : BitVec 32 := Scalar.addi c0_i32_415 v537
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_416 : BitVec 32 := 1#32
  let v539 : BitVec 32 := Scalar.muli v7 c1_i32_416
  let v540 : BitVec 32 := Scalar.addi v538 v539
  v540.toNat
def k0_dev21 (d0 : Dev nD) : Nat :=
  let c0_i32_440 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_439 : BitVec 32 := 2#32
  let v563 : BitVec 32 := Scalar.muli v2 c2_i32_439
  let v564 : BitVec 32 := Scalar.addi c0_i32_440 v563
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_441 : BitVec 32 := 1#32
  let v565 : BitVec 32 := Scalar.muli v7 c1_i32_441
  let v566 : BitVec 32 := Scalar.addi v564 v565
  v566.toNat
def k0_dev22 (d0 : Dev nD) : Nat :=
  let c0_i32_465 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_464 : BitVec 32 := 2#32
  let v589 : BitVec 32 := Scalar.muli v2 c2_i32_464
  let v590 : BitVec 32 := Scalar.addi c0_i32_465 v589
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_466 : BitVec 32 := 1#32
  let v591 : BitVec 32 := Scalar.muli v7 c1_i32_466
  let v592 : BitVec 32 := Scalar.addi v590 v591
  v592.toNat
def k0_dev23 (d0 : Dev nD) : Nat :=
  let c0_i32_490 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_489 : BitVec 32 := 2#32
  let v615 : BitVec 32 := Scalar.muli v2 c2_i32_489
  let v616 : BitVec 32 := Scalar.addi c0_i32_490 v615
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_491 : BitVec 32 := 1#32
  let v617 : BitVec 32 := Scalar.muli v7 c1_i32_491
  let v618 : BitVec 32 := Scalar.addi v616 v617
  v618.toNat
def k0_dev24 (d0 : Dev nD) : Nat :=
  let c0_i32_515 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_514 : BitVec 32 := 2#32
  let v641 : BitVec 32 := Scalar.muli v2 c2_i32_514
  let v642 : BitVec 32 := Scalar.addi c0_i32_515 v641
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_516 : BitVec 32 := 1#32
  let v643 : BitVec 32 := Scalar.muli v7 c1_i32_516
  let v644 : BitVec 32 := Scalar.addi v642 v643
  v644.toNat
def k0_dev25 (d0 : Dev nD) : Nat :=
  let c0_i32_540 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_539 : BitVec 32 := 2#32
  let v667 : BitVec 32 := Scalar.muli v2 c2_i32_539
  let v668 : BitVec 32 := Scalar.addi c0_i32_540 v667
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_541 : BitVec 32 := 1#32
  let v669 : BitVec 32 := Scalar.muli v7 c1_i32_541
  let v670 : BitVec 32 := Scalar.addi v668 v669
  v670.toNat
def k0_dev26 (d0 : Dev nD) : Nat :=
  let c0_i32_565 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_564 : BitVec 32 := 2#32
  let v693 : BitVec 32 := Scalar.muli v2 c2_i32_564
  let v694 : BitVec 32 := Scalar.addi c0_i32_565 v693
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_566 : BitVec 32 := 1#32
  let v695 : BitVec 32 := Scalar.muli v7 c1_i32_566
  let v696 : BitVec 32 := Scalar.addi v694 v695
  v696.toNat
def k0_dev27 (d0 : Dev nD) : Nat :=
  let c0_i32_590 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_589 : BitVec 32 := 2#32
  let v719 : BitVec 32 := Scalar.muli v2 c2_i32_589
  let v720 : BitVec 32 := Scalar.addi c0_i32_590 v719
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_591 : BitVec 32 := 1#32
  let v721 : BitVec 32 := Scalar.muli v7 c1_i32_591
  let v722 : BitVec 32 := Scalar.addi v720 v721
  v722.toNat
def k0_dev28 (d0 : Dev nD) : Nat :=
  let c0_i32_615 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_614 : BitVec 32 := 2#32
  let v745 : BitVec 32 := Scalar.muli v2 c2_i32_614
  let v746 : BitVec 32 := Scalar.addi c0_i32_615 v745
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_616 : BitVec 32 := 1#32
  let v747 : BitVec 32 := Scalar.muli v7 c1_i32_616
  let v748 : BitVec 32 := Scalar.addi v746 v747
  v748.toNat
def k0_dev29 (d0 : Dev nD) : Nat :=
  let c0_i32_640 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_639 : BitVec 32 := 2#32
  let v771 : BitVec 32 := Scalar.muli v2 c2_i32_639
  let v772 : BitVec 32 := Scalar.addi c0_i32_640 v771
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_641 : BitVec 32 := 1#32
  let v773 : BitVec 32 := Scalar.muli v7 c1_i32_641
  let v774 : BitVec 32 := Scalar.addi v772 v773
  v774.toNat
def k0_dev30 (d0 : Dev nD) : Nat :=
  let c0_i32_665 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_664 : BitVec 32 := 2#32
  let v797 : BitVec 32 := Scalar.muli v2 c2_i32_664
  let v798 : BitVec 32 := Scalar.addi c0_i32_665 v797
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_666 : BitVec 32 := 1#32
  let v799 : BitVec 32 := Scalar.muli v7 c1_i32_666
  let v800 : BitVec 32 := Scalar.addi v798 v799
  v800.toNat
def k0_dev31 (d0 : Dev nD) : Nat :=
  let c0_i32_690 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_689 : BitVec 32 := 2#32
  let v823 : BitVec 32 := Scalar.muli v2 c2_i32_689
  let v824 : BitVec 32 := Scalar.addi c0_i32_690 v823
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_691 : BitVec 32 := 1#32
  let v825 : BitVec 32 := Scalar.muli v7 c1_i32_691
  let v826 : BitVec 32 := Scalar.addi v824 v825
  v826.toNat
def k0_dev32 (d0 : Dev nD) : Nat :=
  let c0_i32_715 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_714 : BitVec 32 := 2#32
  let v849 : BitVec 32 := Scalar.muli v2 c2_i32_714
  let v850 : BitVec 32 := Scalar.addi c0_i32_715 v849
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_716 : BitVec 32 := 1#32
  let v851 : BitVec 32 := Scalar.muli v7 c1_i32_716
  let v852 : BitVec 32 := Scalar.addi v850 v851
  v852.toNat
def k0_dev33 (d0 : Dev nD) : Nat :=
  let c0_i32_740 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_739 : BitVec 32 := 2#32
  let v875 : BitVec 32 := Scalar.muli v2 c2_i32_739
  let v876 : BitVec 32 := Scalar.addi c0_i32_740 v875
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_741 : BitVec 32 := 1#32
  let v877 : BitVec 32 := Scalar.muli v7 c1_i32_741
  let v878 : BitVec 32 := Scalar.addi v876 v877
  v878.toNat
def k0_dev34 (d0 : Dev nD) : Nat :=
  let c0_i32_765 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_764 : BitVec 32 := 2#32
  let v901 : BitVec 32 := Scalar.muli v2 c2_i32_764
  let v902 : BitVec 32 := Scalar.addi c0_i32_765 v901
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_766 : BitVec 32 := 1#32
  let v903 : BitVec 32 := Scalar.muli v7 c1_i32_766
  let v904 : BitVec 32 := Scalar.addi v902 v903
  v904.toNat
def k0_off24 (d0 : Dev nD) (c0_i32_789 : BitVec 32) : Fin 2 → Nat :=
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2048_i32_787 : BitVec 32 := 2048#32
  let v927 : BitVec 32 := Scalar.muli v6 c2048_i32_787
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1024_i32_788 : BitVec 32 := 1024#32
  let v928 : BitVec 32 := Scalar.muli v7 c1024_i32_788
  let v929 : BitVec 32 := Scalar.addi v927 v928
  let v930 : BitVec 32 := Scalar.addi v929 c0_i32_789
  let c0_i32_791 : BitVec 32 := 0#32
  ![v930.toNat, 0]
-- ==== Reference.lean ====
abbrev S4096x1024 : Shape := ⟨2, ![4096, 1024]⟩

abbrev nBuf : Space → Nat
  | .hbm => 2
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩

abbrev nD : Nat := 1
abbrev τ : Topo := Topo.v7x

variable {F : FTy → Type} [FloatOps F]
-- ==== Proof.Loop.lean ====
module

public import proofs.«01_k».proof.Proof.Gen.KernelIdeal
public import proofs.«01_k».proof.Proof.Gen.KernelIdeal.Launch
public import Idealize.ShloMosaic.Lib.Pipeline.Regions

/-! # The kernel's body as loops over the sixteen chunks

The printed body is one straight run of some two hundred memory operations: six stretches that each do the
same thing to chunk 0, 1, …, 15 (64 rows of a 1024-row buffer), and some operations between them. Here the body
is written a second time with each stretch as a fold over the list of chunks (`chunks`), and `body_eq` says that
the two are the same program. The proofs about the body then reason about one chunk. -/

@[expose] public section

noncomputable section

namespace Cert.KernelIdeal.Loop

open Idealize.ShloMosaic Idealize.SL.Sem Cert.KernelIdeal Cert.KernelIdeal.Gen Facts

variable {F : FTy → Type} [FloatOps F]

attribute [local instance] Cert.KernelIdeal.Gen.facts

/-- The sixteen chunks in the order the kernel takes them. -/
def chunks : List (Fin 16) := [0, 1, 2, 3, 4, 5, 6, 7, 8, 9, 10, 11, 12, 13, 14, 15]

/-! ## The slices -/

/-- A chunk's rows lie in the staging buffer. -/
theorem inb_stage : ∀ i : Fin 16, ∀ a, (![64 * i.val, 0] : Fin 2 → Nat) a + S64x1024.size a ≤ S1024x1024.size a := by
  decide
/-- And in the buffers of the exchange. -/
theorem inb_rows : ∀ i : Fin 16, ∀ a, (![64 * i.val, 0] : Fin 2 → Nat) a + S64x512.size a ≤ S1024x512.size a := by
  decide
/-- A chunk's rows begin and end at packed rows. -/
theorem packed_rows : ∀ i : Fin 16,
    (Rect.unit (s := S1024x512) ![64 * i.val, 0] S64x512.size (inb_rows i)).PackedRows (EltTy.packing .bf16) := by
  decide
/-- And are made of whole words. -/
theorem words_rows : ∀ i : Fin 16,
    (Rect.unit (s := S1024x512) ![64 * i.val, 0] S64x512.size (inb_rows i)).WholeWords (EltTy.packing .bf16) := by
  decide

/-- Where the half of chunk `i` that goes to the x-neighbour lies in the staging buffer. -/
def offSend (d : Dev nD) (i : Fin 16) : Fin 2 → Nat := ![64 * i.val, k0_off3 d 1]

/-- The half for the x-neighbour lies in the staging buffer. -/
theorem inb_send : ∀ d : Dev nD, ∀ i : Fin 16, ∀ a, offSend d i a + S64x512.size a ≤ S1024x1024.size a := by
  decide +kernel

/-- The argument's rows of chunk `i` that this device forwards. -/
abbrev xRows (d : Dev nD) (i : Fin 16) : Memref sig .tc .hbm S64x1024 .f32 :=
  (Memref.whole main_arg0).slice (Rect.unit (s := S2048x1024) (k0_off1 d (BitVec.ofNat 32 (64 * i.val))) S64x1024.size
    (k0_off1_inb d i)) (fun _ => rfl)
/-- The quarter of the argument this device keeps and does not stage. -/
abbrev xRest (d : Dev nD) : Memref sig .tc .hbm S1024x512 .f32 :=
  (Memref.whole main_arg0).slice (Rect.unit (s := S2048x1024) (k0_off2 d) S1024x512.size (k0_off2_inb d)) (fun _ => rfl)
/-- Chunk `i` of the staging buffer. -/
abbrev stageRows (i : Fin 16) : Memref sig .tc .vmem S64x1024 .f32 :=
  (Memref.whole cc0_scratch0).slice (Rect.unit (s := S1024x1024) ![64 * i.val, 0] S64x1024.size (inb_stage i)) (fun _ => rfl)
/-- Chunk `i` of a 1024-row buffer of 512 columns. -/
abbrev rowRect (i : Fin 16) : Rect S1024x512 := Rect.unit (s := S1024x512) ![64 * i.val, 0] S64x512.size (inb_rows i)
/-- Chunk `i` of the send buffer. -/
abbrev sendRows (i : Fin 16) : Memref sig .tc .vmem S64x512 .bf16 :=
  (Memref.whole cc0_scratch3).slice (rowRect i) (fun _ => rfl)
/-- Chunk `i` of the buffer the x-neighbour fills. -/
abbrev recvxRows (i : Fin 16) : Memref sig .tc .vmem S64x512 .bf16 :=
  (Memref.whole cc0_scratch4).slice (rowRect i) (fun _ => rfl)
/-- Chunk `i` of the buffer the y-neighbour fills. -/
abbrev recvyRows (i : Fin 16) : Memref sig .tc .vmem S64x512 .bf16 :=
  (Memref.whole cc0_scratch5).slice (rowRect i) (fun _ => rfl)
/-- The half of the result that this device computes from its own argument. -/
abbrev outOwn (d : Dev nD) : Memref sig .tc .hbm S2048x512 .bf16 :=
  (Memref.whole main_v1).slice (Rect.unit (s := S4096x512) (k0_off22 d) S2048x512.size (k0_off22_inb d)) (fun _ => rfl)
/-- The rows of the result that chunk `i` of the x-neighbour's buffer is copied to. -/
abbrev outX (d : Dev nD) (i : Fin 16) : Memref sig .tc .hbm S64x512 .bf16 :=
  (Memref.whole main_v1).slice (Rect.unit (s := S4096x512) (k0_off23 d (BitVec.ofNat 32 (64 * i.val))) S64x512.size
    (k0_off23_inb d i)) (fun _ => rfl)
/-- The rows of the result that chunk `i` of the y-neighbour's buffer is copied to. -/
abbrev outY (d : Dev nD) (i : Fin 16) : Memref sig .tc .hbm S64x512 .bf16 :=
  (Memref.whole main_v1).slice (Rect.unit (s := S4096x512) (k0_off24 d (BitVec.ofNat 32 (64 * i.val))) S64x512.size
    (k0_off24_inb d i)) (fun _ => rfl)

/-! ## The semaphores -/

/-- The staging copies' semaphores. -/
abbrev inS (i : Fin 16) : DmaSem sig := ⟨i.val, by have := i.isLt; change _ < 114; omega⟩
/-- The semaphore of the copy of the kept quarter. -/
abbrev localS : DmaSem sig := 16
/-- The semaphore of the copy of the device's own half of the result. -/
abbrev ownS : DmaSem sig := 17
/-- The semaphores of the copies from the x-neighbour's buffer to the result. -/
abbrev outXS (i : Fin 16) : DmaSem sig := ⟨18 + i.val, by have := i.isLt; change _ < 114; omega⟩
/-- The semaphores of the copies from the y-neighbour's buffer to the result. -/
abbrev outYS (i : Fin 16) : DmaSem sig := ⟨34 + i.val, by have := i.isLt; change _ < 114; omega⟩
/-- The semaphores of the copies between devices: four families of sixteen. -/
abbrev xferS (k : Fin 4) (i : Fin 16) : DmaSem sig :=
  ⟨50 + 16 * k.val + i.val, by have := i.isLt; have := k.isLt; change _ < 114; omega⟩
/-- The semaphores by which a copy to the x-neighbour says that it has left. -/
abbrev xSendS (i : Fin 16) : DmaSem sig := xferS 0 i
/-- The semaphores by which a copy from the x-neighbour says that it has come. -/
abbrev xRecvS (i : Fin 16) : DmaSem sig := xferS 1 i
/-- The semaphores by which a copy to the y-neighbour says that it has left. -/
abbrev ySendS (i : Fin 16) : DmaSem sig := xferS 2 i
/-- The semaphores by which a copy from the y-neighbour says that it has come. -/
abbrev yRecvS (i : Fin 16) : DmaSem sig := xferS 3 i
/-- The barrier. -/
abbrev barS : Sem sig := (SemArray.scalar (sig.barrier 0 rfl) : Sems sig S_).sem

/-- The x-neighbour. -/
abbrev px (d : Dev nD) : Dev nD := ⟨k0_dev3 d, k0_dev3_lt d⟩
/-- The y-neighbour. -/
abbrev py (d : Dev nD) : Dev nD := ⟨k0_dev19 d, k0_dev19_lt d⟩

/-! ## The program -/

/-- A program of the kernel's core. -/
abbrev P (F : FTy → Type) : Type 1 := Prog (TpuEff nD τ sig (Elt F) Λ₀ .tc) PUnit

/-- Stage chunk `i`. -/
def stageStep (d : Dev nD) (i : Fin 16) (k : P F) : P F :=
  .op (.enqueueDma (xRows d i) (.here (stageRows i)) (.dma (inS i)) (View.wordExact_bits rfl) (View.wordExact_bits rfl)
    ⟨Or.inl rfl, trivial⟩) fun _ => k

/-- Take chunk `i`, convert the x-neighbour's half of it and send it. -/
def sendStep (d : Dev nD) (i : Fin 16) (k : P F) : P F :=
  .op (.waitDma2 (inS i) (xRows d i) (stageRows i) (View.wordExact_bits rfl) (View.wordExact_bits rfl)) fun _ =>
  .op (.load (Memref.whole cc0_scratch0) (Rect.unit (s := S1024x1024) (offSend d i) S64x512.size (inb_send d i)).toLoadRect
    (View.loadsAt_vmem h_S64x512)) fun v =>
  .op (.load (Memref.whole cc0_scratch3) (rowRect i).toLoadRect (View.loadsAt_vmem h_S64x512)) fun _ =>
  .op (.store (Memref.whole cc0_scratch3) (rowRect i)
    (shapeCast S64x512 (truncf .bf16 (v : Vec F S64x512 .f32) bitsLt_bf16_f32 : FVec F S64x512 .bf16) shapeCasts_S64x512_S64x512)
    Finset.univ
    (View.stores_vmem h_S64x512 ((Memref.isWhole_whole _).storeExact_slice rfl _ (packed_rows i)) (fun _ => rfl))
    (.inl rfl)) fun _ =>
  .op (.enqueueDma (sendRows i) (.remote (Dev.tc (px d)) (recvxRows i) (.dma (xSendS i))) (.dma (xRecvS i))
    ((Memref.isWhole_whole _).wordExact_slice rfl _ (words_rows i))
    ((Memref.isWhole_whole _).wordExact_slice rfl _ (words_rows i)) ⟨⟨rfl, Or.inl rfl⟩, trivial⟩) fun _ => k

/-- Take the x-neighbour's chunk `i`, forward it to the y-neighbour and copy it to the result. -/
def forwardStep (d : Dev nD) (i : Fin 16) (k : P F) : P F :=
  .op (.waitDma2 (xRecvS i) (sendRows i) (recvxRows i)
    ((Memref.isWhole_whole _).wordExact_slice rfl _ (words_rows i))
    ((Memref.isWhole_whole _).wordExact_slice rfl _ (words_rows i))) fun _ =>
  .op (.enqueueDma (recvxRows i) (.remote (Dev.tc (py d)) (recvyRows i) (.dma (ySendS i))) (.dma (yRecvS i))
    ((Memref.isWhole_whole _).wordExact_slice rfl _ (words_rows i))
    ((Memref.isWhole_whole _).wordExact_slice rfl _ (words_rows i)) ⟨⟨rfl, Or.inl rfl⟩, trivial⟩) fun _ =>
  .op (.enqueueDma (recvxRows i) (.here (outX d i)) (.dma (outXS i))
    ((Memref.isWhole_whole _).wordExact_slice rfl _ (words_rows i))
    ((Memref.isWhole_whole _).wordExact_slice rfl _ (k0_off23_wordsbf16 d i)) ⟨Or.inl rfl, trivial⟩) fun _ => k

/-- Take the y-neighbour's chunk `i` and copy it to the result. -/
def lastStep (d : Dev nD) (i : Fin 16) (k : P F) : P F :=
  .op (.waitDma2 (yRecvS i) (recvxRows i) (recvyRows i)
    ((Memref.isWhole_whole _).wordExact_slice rfl _ (words_rows i))
    ((Memref.isWhole_whole _).wordExact_slice rfl _ (words_rows i))) fun _ =>
  .op (.enqueueDma (recvyRows i) (.here (outY d i)) (.dma (outYS i))
    ((Memref.isWhole_whole _).wordExact_slice rfl _ (words_rows i))
    ((Memref.isWhole_whole _).wordExact_slice rfl _ (k0_off24_wordsbf16 d i)) ⟨Or.inl rfl, trivial⟩) fun _ => k

/-- Wait for the four copies of chunk `i` that are still out. -/
def drainStep (d : Dev nD) (i : Fin 16) (k : P F) : P F :=
  .op (.waitDma2 (outXS i) (recvxRows i) (outX d i)
    ((Memref.isWhole_whole _).wordExact_slice rfl _ (words_rows i))
    ((Memref.isWhole_whole _).wordExact_slice rfl _ (k0_off23_wordsbf16 d i))) fun _ =>
  .op (.waitDma2 (outYS i) (recvyRows i) (outY d i)
    ((Memref.isWhole_whole _).wordExact_slice rfl _ (words_rows i))
    ((Memref.isWhole_whole _).wordExact_slice rfl _ (k0_off24_wordsbf16 d i))) fun _ =>
  .op (.waitDma2 (xSendS i) (recvxRows i) (sendRows i)
    ((Memref.isWhole_whole _).wordExact_slice rfl _ (words_rows i))
    ((Memref.isWhole_whole _).wordExact_slice rfl _ (words_rows i))) fun _ =>
  .op (.waitDma2 (ySendS i) (recvyRows i) (recvxRows i)
    ((Memref.isWhole_whole _).wordExact_slice rfl _ (words_rows i))
    ((Memref.isWhole_whole _).wordExact_slice rfl _ (words_rows i))) fun _ => k

/-- The same step for each chunk, in order, and then `k`. -/
def each (f : Fin 16 → P F → P F) (k : P F) : P F := chunks.foldr f k

/-- Start the copy of the kept quarter. -/
def localStart (d : Dev nD) (k : P F) : P F :=
  .op (.enqueueDma (xRest d) (.here (Memref.whole cc0_scratch1)) (.dma localS) (View.wordExact_bits rfl)
    (Memref.isWhole_whole _).wordExact ⟨Or.inl rfl, trivial⟩) fun _ => k

/-- Tell both neighbours that this device's buffers may be written, and wait for both to say the same. -/
def meet (d : Dev nD) (k : P F) : P F :=
  .op (.semSignal (⟨k0_dev1 d, k0_dev1_lt d⟩, .tc) barS (1#32 : BitVec 32).toInt) fun _ =>
  .op (.semSignal (⟨k0_dev2 d, k0_dev2_lt d⟩, .tc) barS (1#32 : BitVec 32).toInt) fun _ =>
  .op (.semWait barS (2#32 : BitVec 32).toInt) fun _ => k

/-- Convert the device's own two quarters and start their copy to the result. -/
def ownPart (d : Dev nD) (k : P F) : P F :=
  .op (.load (Memref.whole cc0_scratch0) (Rect.unit (s := S1024x1024) (k0_off19 d) S1024x512.size (k0_off19_inb d)).toLoadRect
    (View.loadsAt_vmem h_S1024x512)) fun v =>
  .op (.load (Memref.whole cc0_scratch2) (Rect.unit (s := S2048x512) (k0_off20 d) S1024x512.size (k0_off20_inb d)).toLoadRect
    (View.loadsAt_vmem h_S1024x512)) fun _ =>
  .op (.store (Memref.whole cc0_scratch2) (Rect.unit (s := S2048x512) (k0_off20 d) S1024x512.size (k0_off20_inb d))
    (shapeCast S1024x512 (truncf .bf16 (v : Vec F S1024x512 .f32) bitsLt_bf16_f32 : FVec F S1024x512 .bf16)
      shapeCasts_S1024x512_S1024x512) Finset.univ
    (View.stores_vmem h_S1024x512 ((Memref.isWhole_whole _).storeExact_slice rfl _ (k0_off20_packedbf16 d)) (fun _ => rfl))
    (.inl rfl)) fun _ =>
  .op (.waitDma2 localS (xRest d) (Memref.whole cc0_scratch1) (View.wordExact_bits rfl) (Memref.isWhole_whole _).wordExact) fun _ =>
  .op (.load (Memref.whole cc0_scratch1) (Rect.unit (s := S1024x512) ![0, 0] S1024x512.size inb_S1024x512_S1024x512_0_0).toLoadRect
    (View.loadsAt_vmem h_S1024x512)) fun v =>
  .op (.load (Memref.whole cc0_scratch2) (Rect.unit (s := S2048x512) (k0_off21 d) S1024x512.size (k0_off21_inb d)).toLoadRect
    (View.loadsAt_vmem h_S1024x512)) fun _ =>
  .op (.store (Memref.whole cc0_scratch2) (Rect.unit (s := S2048x512) (k0_off21 d) S1024x512.size (k0_off21_inb d))
    (shapeCast S1024x512 (truncf .bf16 (v : Vec F S1024x512 .f32) bitsLt_bf16_f32 : FVec F S1024x512 .bf16)
      shapeCasts_S1024x512_S1024x512) Finset.univ
    (View.stores_vmem h_S1024x512 ((Memref.isWhole_whole _).storeExact_slice rfl _ (k0_off21_packedbf16 d)) (fun _ => rfl))
    (.inl rfl)) fun _ =>
  .op (.enqueueDma (Memref.whole cc0_scratch2) (.here (outOwn d)) (.dma ownS) (Memref.isWhole_whole _).wordExact
    ((Memref.isWhole_whole _).wordExact_slice rfl _ (k0_off22_wordsbf16 d)) ⟨Or.inl rfl, trivial⟩) fun _ => k

/-- Wait for the copy of the device's own half. -/
def ownWait (d : Dev nD) (k : P F) : P F :=
  .op (.waitDma2 ownS (Memref.whole cc0_scratch2) (outOwn d) (Memref.isWhole_whole _).wordExact
    ((Memref.isWhole_whole _).wordExact_slice rfl _ (k0_off22_wordsbf16 d))) fun _ => k

/-- What a device does once it knows which one it is. -/
def work (d : Dev nD) : P F :=
  each (stageStep d) <| localStart d <| meet d <| each (sendStep d) <| ownPart d <| each (forwardStep d) <|
  each (lastStep d) <| ownWait d <| each (drainStep d) <| .ret ⟨⟩

/-- The kernel's body is that program. -/
theorem body_eq :
    (cc0_body (Memref.whole main_arg0) (Memref.isWhole_whole _) (Memref.whole main_v1) (Memref.isWhole_whole _)
      (Memref.whole cc0_scratch0) (Memref.isWhole_whole _) (Memref.whole cc0_scratch1) (Memref.isWhole_whole _)
      (Memref.whole cc0_scratch2) (Memref.isWhole_whole _) (Memref.whole cc0_scratch3) (Memref.isWhole_whole _)
      (Memref.whole cc0_scratch4) (Memref.isWhole_whole _) (Memref.whole cc0_scratch5) (Memref.isWhole_whole _)
      cc0_scratch6 cc0_scratch7 cc0_scratch8 cc0_scratch9 cc0_scratch10 cc0_scratch11 cc0_scratch12 cc0_scratch13
      cc0_scratch14 : P F) = .op .deviceId fun d => work d := by
  chain_rfl

end Cert.KernelIdeal.Loop

end

end
-- ==== Proof.Contents.lean ====
module

public import proofs.«01_k».proof.Proof.Loop
public import Idealize.ShloMosaic.Lib.Pointwise.Index

/-! # What the buffers hold

The contents each buffer of device `c` ends with, as functions of the arguments `X` of all devices, and how each
copy, load and store of the body makes them: what is read from a slice of one is what the matching slice of the
next one reads. -/

@[expose] public section

noncomputable section

namespace Cert.KernelIdeal.Loop

open Idealize.ShloMosaic Idealize.SL.Sem Cert.KernelIdeal Cert.KernelIdeal.Gen Facts

variable {F : FTy → Type} [FloatOps F]

attribute [local instance] Cert.KernelIdeal.Gen.facts

/-! ## The neighbours -/

/-- The x-neighbour's number. -/
theorem px_val (c : Dev nD) : (px c).val = c.val % 2 + 2 - 2 * (c.val / 2) := k0_dev3_eq c
/-- The y-neighbour's number. -/
theorem py_val (c : Dev nD) : (py c).val = 2 * (c.val / 2) + 1 - c.val % 2 := k0_dev19_eq c
/-- The x-neighbour of the x-neighbour is the device itself. -/
theorem px_px (c : Dev nD) : px (px c) = c := by revert c; decide +kernel
/-- So is the y-neighbour of the y-neighbour. -/
theorem py_py (c : Dev nD) : py (py c) = c := by revert c; decide +kernel
/-- The device the first signal of the barrier goes to. -/
theorem dev1_eq (c : Dev nD) : (⟨k0_dev1 c, k0_dev1_lt c⟩ : Dev nD) = px c :=
  Fin.ext ((k0_dev1_eq c).trans (px_val c).symm)
/-- The device the second signal of the barrier goes to. -/
theorem dev2_eq (c : Dev nD) : (⟨k0_dev2 c, k0_dev2_lt c⟩ : Dev nD) = py c :=
  Fin.ext ((k0_dev2_eq c).trans (py_val c).symm)
/-- Where a chunk's half for the x-neighbour begins. -/
theorem offSend_eq (c : Dev nD) (i : Fin 16) : offSend c i = ![64 * i.val, 512 - 512 * (c.val / 2)] := by
  unfold offSend; rw [k0_off3_eq]; rfl

/-! ## The contents -/

/-- A device's argument. -/
abbrev Arg (F : FTy → Type) : Type := (main_arg0 : Ref sig .tc).ty.Contents (Elt F)

/-- A device's argument at row `r`, column `k` (taken modulo its extents, so that it is defined everywhere). -/
def atX (f : Arg F) (r k : Nat) : F .f32 :=
  f (ix2 (⟨r % 2048, Nat.mod_lt _ (by decide)⟩ : Fin 2048) (⟨k % 1024, Nat.mod_lt _ (by decide)⟩ : Fin 1024))

omit [FloatOps F] in
/-- An element of the argument by the numbers of its row and column. -/
theorem eq_atX (f : Arg F) (j : S2048x1024.Idx) (r k : Nat) (hr : (j 0).val = r) (hk : (j 1).val = k) : f j = atX f r k := by
  have h0 : (j 0).val < 2048 := (j 0).isLt
  have h1 : (j 1).val < 1024 := (j 1).isLt
  unfold atX
  refine congrArg f (funext fun a => Fin.ext ?_)
  match a with
  | ⟨0, _⟩ => show (j 0).val = r % 2048; omega
  | ⟨1, _⟩ => show (j 1).val = k % 1024; omega

/-- The conversion of one number. -/
def bf (x : F .f32) : F .bf16 := FloatOps.truncf .bf16 bitsLt_bf16_f32 x

variable (X : Dev nD → Arg F)

/-- The staging buffer: the rows this device forwards. -/
def stage (c : Dev nD) : (cc0_scratch0 : Ref sig .tc).ty.Contents (Elt F) :=
  fun i : S1024x1024.Idx => atX (X c) (1024 * (c.val % 2) + (i 0).val) (i 1).val
/-- The quarter this device keeps without staging it. -/
def rest (c : Dev nD) : (cc0_scratch1 : Ref sig .tc).ty.Contents (Elt F) :=
  fun i : S1024x512.Idx => atX (X c) (1024 - 1024 * (c.val % 2) + (i 0).val) (512 * (c.val / 2) + (i 1).val)
/-- The device's own half of its result. -/
def own (c : Dev nD) : (cc0_scratch2 : Ref sig .tc).ty.Contents (Elt F) :=
  fun i : S2048x512.Idx => bf (atX (X c) (i 0).val (512 * (c.val / 2) + (i 1).val))
/-- What the device sends to its x-neighbour. -/
def send (c : Dev nD) : (cc0_scratch3 : Ref sig .tc).ty.Contents (Elt F) :=
  fun i : S1024x512.Idx => bf (atX (X c) (1024 * (c.val % 2) + (i 0).val) (512 - 512 * (c.val / 2) + (i 1).val))
/-- What it gets from its x-neighbour. -/
def recvx (c : Dev nD) : (cc0_scratch4 : Ref sig .tc).ty.Contents (Elt F) := send X (px c)
/-- What it gets from its y-neighbour. -/
def recvy (c : Dev nD) : (cc0_scratch5 : Ref sig .tc).ty.Contents (Elt F) := recvx X (py c)
/-- The device whose argument row `r` of device `c`'s result comes from. -/
def src (c : Dev nD) (r : Nat) : Dev nD :=
  if r / 2048 = c.val / 2 then c else if r % 2048 / 1024 = c.val % 2 then px c else px (py c)
/-- The device's result. -/
def out (c : Dev nD) : (main_v1 : Ref sig .tc).ty.Contents (Elt F) :=
  fun i : S4096x512.Idx => bf (atX (X (src c (i 0).val)) ((i 0).val % 2048) (512 * (c.val / 2) + (i 1).val))

/-! ## The copies, loads and stores -/

omit [FloatOps F] in
/-- A chunk of the argument is what the staging buffer is to hold. -/
theorem read_xRows (c : Dev nD) (i : Fin 16) :
    (xRows c i).view.read (Elt F) (X c) = (stageRows i).view.read (Elt F) (stage X c) := by
  funext j
  refine eq_atX (X c) ((Rect.unit (s := S2048x1024) (k0_off1 c (BitVec.ofNat 32 (64 * i.val))) S64x1024.size
    (k0_off1_inb c i)).emb j) _ _ ?_ ?_
  · show k0_off1 c (BitVec.ofNat 32 (64 * i.val)) 0 + 1 * (j 0).val = 1024 * (c.val % 2) + (64 * i.val + 1 * (j 0).val)
    rw [k0_off1_eq]; simp only [Matrix.cons_val_zero]; omega
  · show k0_off1 c (BitVec.ofNat 32 (64 * i.val)) 1 + 1 * (j 1).val = (0 + 1 * (j 1).val)
    rw [k0_off1_eq]; rfl

omit [FloatOps F] in
/-- The quarter of the argument that is copied in directly. -/
theorem read_xRest (c : Dev nD) : (xRest c).view.read (Elt F) (X c) = rest X c := by
  funext j
  refine eq_atX (X c) ((Rect.unit (s := S2048x1024) (k0_off2 c) S1024x512.size (k0_off2_inb c)).emb j) _ _ ?_ ?_
  · show k0_off2 c 0 + 1 * (j 0).val = _
    rw [k0_off2_eq, Nat.one_mul]; rfl
  · show k0_off2 c 1 + 1 * (j 1).val = _
    rw [k0_off2_eq, Nat.one_mul]; rfl

/-- What is loaded of a staged chunk and converted is the send buffer's chunk. -/
theorem conv_send (c : Dev nD) (i : Fin 16) :
    shapeCast S64x512 (truncf .bf16 ((Memref.whole cc0_scratch0).view.readAt (Elt F)
      (Rect.unit (s := S1024x1024) (offSend c i) S64x512.size (inb_send c i)).toLoadRect (stage X c) : Vec F S64x512 .f32)
      bitsLt_bf16_f32 : FVec F S64x512 .bf16) shapeCasts_S64x512_S64x512
      = (sendRows i).view.read (Elt F) (send X c) := by
  rw [show shapeCast S64x512 _ shapeCasts_S64x512_S64x512 = _ from
    funext fun j => by unfold shapeCast; rw [show Shape.reshapeEquiv _ j = j from by rw [Shape.reshapeEquiv_self]]]
  funext j
  refine congrArg bf ?_
  show atX (X c) (1024 * (c.val % 2) + (offSend c i 0 + 1 * (j 0).val)) (offSend c i 1 + 1 * (j 1).val)
    = atX (X c) (1024 * (c.val % 2) + (64 * i.val + 1 * (j 0).val)) (512 - 512 * (c.val / 2) + (0 + 1 * (j 1).val))
  rw [offSend_eq]
  simp only [Matrix.cons_val_zero, Matrix.cons_val_one, Nat.zero_add]

/-- The half of the result computed from staged rows, as a rectangle of the buffer it is gathered in. -/
abbrev ownRectA (c : Dev nD) : Rect S2048x512 :=
  Rect.unit (s := S2048x512) (k0_off20 c) S1024x512.size (k0_off20_inb c)
/-- The other half of it. -/
abbrev ownRectB (c : Dev nD) : Rect S2048x512 :=
  Rect.unit (s := S2048x512) (k0_off21 c) S1024x512.size (k0_off21_inb c)

/-- What is loaded of the staged rows and converted for the device itself. -/
theorem conv_ownA (c : Dev nD) :
    shapeCast S1024x512 (truncf .bf16 ((Memref.whole cc0_scratch0).view.readAt (Elt F)
      (Rect.unit (s := S1024x1024) (k0_off19 c) S1024x512.size (k0_off19_inb c)).toLoadRect (stage X c) : Vec F S1024x512 .f32)
      bitsLt_bf16_f32 : FVec F S1024x512 .bf16) shapeCasts_S1024x512_S1024x512
      = ((Memref.whole cc0_scratch2).access (ownRectA c)).read (Elt F) (own X c) := by
  rw [show shapeCast S1024x512 _ shapeCasts_S1024x512_S1024x512 = _ from
    funext fun j => by unfold shapeCast; rw [show Shape.reshapeEquiv _ j = j from by rw [Shape.reshapeEquiv_self]]]
  funext j
  refine congrArg bf ?_
  show atX (X c) (1024 * (c.val % 2) + (k0_off19 c 0 + 1 * (j 0).val)) (k0_off19 c 1 + 1 * (j 1).val)
    = atX (X c) (k0_off20 c 0 + 1 * (j 0).val) (512 * (c.val / 2) + (k0_off20 c 1 + 1 * (j 1).val))
  rw [k0_off19_eq, k0_off20_eq]
  simp only [Matrix.cons_val_zero, Matrix.cons_val_one, Nat.zero_add]

/-- What is loaded of the kept quarter and converted. -/
theorem conv_ownB (c : Dev nD) :
    shapeCast S1024x512 (truncf .bf16 ((Memref.whole cc0_scratch1).view.readAt (Elt F)
      (Rect.unit (s := S1024x512) ![0, 0] S1024x512.size inb_S1024x512_S1024x512_0_0).toLoadRect (rest X c) : Vec F S1024x512 .f32)
      bitsLt_bf16_f32 : FVec F S1024x512 .bf16) shapeCasts_S1024x512_S1024x512
      = ((Memref.whole cc0_scratch2).access (ownRectB c)).read (Elt F) (own X c) := by
  rw [show shapeCast S1024x512 _ shapeCasts_S1024x512_S1024x512 = _ from
    funext fun j => by unfold shapeCast; rw [show Shape.reshapeEquiv _ j = j from by rw [Shape.reshapeEquiv_self]]]
  funext j
  refine congrArg bf ?_
  show atX (X c) (1024 - 1024 * (c.val % 2) + (0 + 1 * (j 0).val)) (512 * (c.val / 2) + (0 + 1 * (j 1).val))
    = atX (X c) (k0_off21 c 0 + 1 * (j 0).val) (512 * (c.val / 2) + (k0_off21 c 1 + 1 * (j 1).val))
  rw [k0_off21_eq]
  simp only [Matrix.cons_val_zero, Matrix.cons_val_one, Nat.zero_add]

/-- The two stores fill the buffer. -/
theorem write_own (c : Dev nD) (f : (cc0_scratch2 : Ref sig .tc).ty.Contents (Elt F)) :
    ((Memref.whole cc0_scratch2).access (ownRectB c)).write (Elt F)
      (((Memref.whole cc0_scratch2).access (ownRectA c)).write (Elt F) f
        (((Memref.whole cc0_scratch2).access (ownRectA c)).read (Elt F) (own X c)) Finset.univ)
      (((Memref.whole cc0_scratch2).access (ownRectB c)).read (Elt F) (own X c)) Finset.univ = own X c := by
  rw [View.write_read_eq_piecewise, View.write_read_eq_piecewise]
  funext i
  by_cases hB : i ∈ ((Memref.whole cc0_scratch2).access (ownRectB c)).setOn Finset.univ
  · rw [Finset.piecewise_eq_of_mem _ _ _ hB]
  · rw [Finset.piecewise_eq_of_notMem _ _ _ hB, Finset.piecewise_eq_of_mem]
    replace hB : i ∉ (ownRectB c).set := fun h => hB (by
      rw [show ((Memref.whole cc0_scratch2).access (ownRectB c)).setOn Finset.univ = (ownRectB c).set from
        View.set_slice_whole _ _]; exact h)
    rw [show ((Memref.whole cc0_scratch2).access (ownRectA c)).setOn Finset.univ = (ownRectA c).set from
        View.set_slice_whole _ _]
    rw [Rect.mem_set_unit, k0_off21_eq, Fin.forall_fin_two] at hB
    rw [Rect.mem_set_unit, k0_off20_eq, Fin.forall_fin_two]
    have h0 : (i 0).val < 2048 := (i 0).isLt
    have h1 : (i 1).val < 512 := (i 1).isLt
    simp only [Matrix.cons_val_zero, Matrix.cons_val_one] at hB ⊢
    change ¬ ((_ ≤ (i 0).val ∧ (i 0).val < _ + 1024) ∧ (0 ≤ (i 1).val ∧ (i 1).val < 0 + 512)) at hB
    change (_ ≤ (i 0).val ∧ (i 0).val < _ + 1024) ∧ (0 ≤ (i 1).val ∧ (i 1).val < 0 + 512)
    omega

/-- The device's own half is what its copy puts into the result. -/
theorem read_own (c : Dev nD) :
    (Memref.whole cc0_scratch2).view.read (Elt F) (own X c) = (outOwn c).view.read (Elt F) (out X c) := by
  funext j
  have h0 : (j 0).val < 2048 := (j 0).isLt
  have hc : c.val < 4 := c.isLt
  show bf (atX (X c) (j 0).val (512 * (c.val / 2) + (j 1).val))
    = bf (atX (X (src c (k0_off22 c 0 + 1 * (j 0).val))) ((k0_off22 c 0 + 1 * (j 0).val) % 2048)
        (512 * (c.val / 2) + (k0_off22 c 1 + 1 * (j 1).val)))
  rw [k0_off22_eq]
  simp only [Matrix.cons_val_zero, Matrix.cons_val_one, Nat.zero_add, Nat.one_mul]
  rw [show src c (2048 * (c.val / 2) + (j 0).val) = c from if_pos (by omega),
    show (2048 * (c.val / 2) + (j 0).val) % 2048 = (j 0).val by omega]

/-- A chunk from the x-neighbour is what its copy puts into the result. -/
theorem read_outX (c : Dev nD) (i : Fin 16) :
    (recvxRows i).view.read (Elt F) (recvx X c) = (outX c i).view.read (Elt F) (out X c) := by
  funext j
  have h0 : (j 0).val < 64 := (j 0).isLt
  have hi : i.val < 16 := i.isLt
  have hc : c.val < 4 := c.isLt
  have hp := px_val c
  show bf (atX (X (px c)) (1024 * ((px c).val % 2) + (64 * i.val + 1 * (j 0).val))
      (512 - 512 * ((px c).val / 2) + (0 + 1 * (j 1).val)))
    = bf (atX (X (src c (k0_off23 c (BitVec.ofNat 32 (64 * i.val)) 0 + 1 * (j 0).val)))
        ((k0_off23 c (BitVec.ofNat 32 (64 * i.val)) 0 + 1 * (j 0).val) % 2048)
        (512 * (c.val / 2) + (k0_off23 c (BitVec.ofNat 32 (64 * i.val)) 1 + 1 * (j 1).val)))
  rw [k0_off23_eq]
  simp only [Matrix.cons_val_zero, Matrix.cons_val_one, Nat.zero_add, Nat.one_mul]
  rw [show src c (1024 * (c.val % 2) + 64 * i.val + 2048 - 2048 * (c.val / 2) + (j 0).val) = px c from by
      unfold src; rw [if_neg (by omega), if_pos (by omega)],
    show (1024 * (c.val % 2) + 64 * i.val + 2048 - 2048 * (c.val / 2) + (j 0).val) % 2048
      = 1024 * ((px c).val % 2) + (64 * i.val + (j 0).val) by omega,
    show 512 - 512 * ((px c).val / 2) = 512 * (c.val / 2) by omega]

/-- A chunk from the y-neighbour is what its copy puts into the result. -/
theorem read_outY (c : Dev nD) (i : Fin 16) :
    (recvyRows i).view.read (Elt F) (recvy X c) = (outY c i).view.read (Elt F) (out X c) := by
  funext j
  have h0 : (j 0).val < 64 := (j 0).isLt
  have hi : i.val < 16 := i.isLt
  have hc : c.val < 4 := c.isLt
  have hp := py_val c
  have hq := px_val (py c)
  show bf (atX (X (px (py c))) (1024 * ((px (py c)).val % 2) + (64 * i.val + 1 * (j 0).val))
      (512 - 512 * ((px (py c)).val / 2) + (0 + 1 * (j 1).val)))
    = bf (atX (X (src c (k0_off24 c (BitVec.ofNat 32 (64 * i.val)) 0 + 1 * (j 0).val)))
        ((k0_off24 c (BitVec.ofNat 32 (64 * i.val)) 0 + 1 * (j 0).val) % 2048)
        (512 * (c.val / 2) + (k0_off24 c (BitVec.ofNat 32 (64 * i.val)) 1 + 1 * (j 1).val)))
  rw [k0_off24_eq]
  simp only [Matrix.cons_val_zero, Matrix.cons_val_one, Nat.zero_add, Nat.one_mul]
  rw [show src c (64 * i.val + 3072 - (2048 * (c.val / 2) + 1024 * (c.val % 2)) + (j 0).val) = px (py c) from by
      unfold src; rw [if_neg (by omega), if_neg (by omega)],
    show (64 * i.val + 3072 - (2048 * (c.val / 2) + 1024 * (c.val % 2)) + (j 0).val) % 2048
      = 1024 * ((px (py c)).val % 2) + (64 * i.val + (j 0).val) by omega,
    show 512 - 512 * ((px (py c)).val / 2) = 512 * (c.val / 2) by omega]

end Cert.KernelIdeal.Loop

end

end
-- ==== Proof.Schedule.lean ====
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

/-! # The protocol

The semaphores two devices share, as cells of the rounds library: on each device the barrier, and the four
families of sixteen that the copies between devices signal. Every cell has one round.

* The barrier's cell of device `c` has two duties of one unit: `false`, paid by the x-neighbour, which hands over its
  buffer for chunks from `c`; and `true`, paid by the y-neighbour, which hands over its buffer for forwarded chunks.
* Each of the other cells has the one duty `false` of a chunk's credit: a receive cell hands over the filled chunk,
  a send cell gives back what was read.

A device owes, at its start, both neighbours' barriers one unit, and each receive cell it copies to a chunk's
credit. The levels are: barrier 1, chunks from the x-neighbour 2, chunks from the y-neighbour 3, everything a
device signals to itself 0; a device waits on a cell only when it owes nothing but to higher ones. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

/-! ## The resource algebra -/

/-- The rounds library's copy for the protocol's cells. -/
abbrev UB : Type := URounds (GSem nD τ sig) Bool
/-- The launch library's copy, the protocol's, and the counters of the copies within a device. -/
abbrev UU : Type := UR sig nD τ × (UB × Counters)

local notation "𝕄" => MT nD τ sig Unit (Elt F) ℕ UU ℕ

/-- Where the launch library's copy lies. -/
abbrev EP : Emb (UR sig nD τ) (MT nD τ sig Unit (Elt F) ℕ UU ℕ) := embL
/-- Where the protocol's copy lies. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
/-- The protocol's copy lies among the program's own resources. -/
instance ER_landsIn : (ER : Emb UB 𝕄).LandsIn (upEmb : UEmb _ 𝕄) := by unfold ER; infer_instance
/-- Where the counters lie. -/
abbrev EC : UEmb Counters (MT nD τ sig Unit (Elt F) ℕ UU ℕ) := countersEmb

/-! ## The cells -/

/-- The name of a shared semaphore: the barrier, or a family and a chunk. -/
abbrev Cell : Type := Option (Fin 4 × Fin 16)

/-- The semaphore of that name. -/
def csem : Cell → SemLoc sig
  | none => .reg barS
  | some (k, i) => .dma (xferS k i)

/-- The name of a semaphore that has one. -/
def decode : SemLoc sig → Option Cell
  | .reg s => if s = barS then some none else none
  | .dma q => if 50 ≤ q.val then
      some (some (⟨(q.val - 50) / 16 % 4, Nat.mod_lt _ (by decide)⟩, ⟨(q.val - 50) % 16, Nat.mod_lt _ (by decide)⟩)) else none

/-- The name of a named semaphore. -/
theorem decode_csem (q : Cell) : decode (csem q) = some q := by
  match q with
  | none => show (if barS = barS then some none else none) = some none; exact if_pos rfl
  | some (k, i) =>
    have hk := k.isLt
    have hi := i.isLt
    refine (if_pos (show 50 ≤ 50 + 16 * k.val + i.val by omega)).trans ?_
    refine congrArg (fun p => some (some p)) (Prod.ext (Fin.ext ?_) (Fin.ext ?_))
    · show (50 + 16 * k.val + i.val - 50) / 16 % 4 = k.val; omega
    · show (50 + 16 * k.val + i.val - 50) % 16 = i.val; omega

/-- Different names are of different semaphores. -/
theorem csem_injective : Function.Injective csem := fun a b h => by
  have := decode_csem a
  rw [h, decode_csem] at this
  exact (Option.some.inj this).symm

/-- The shared semaphore `q` of device `c`. -/
def cell (c : Dev nD) (q : Cell) : GSem nD τ sig := ((c : Thread nD τ), csem q)

/-- Different devices or names are different cells. -/
theorem cell_injective {c c' : Dev nD} {q q' : Cell} (h : cell c q = cell c' q') : c = c' ∧ q = q' :=
  ⟨congrArg (fun g => g.1.1) h, csem_injective (congrArg Prod.snd h)⟩

/-- A device's barrier. -/
abbrev barC (c : Dev nD) : GSem nD τ sig := cell c none
/-- A cell of a device by family and chunk. -/
abbrev xferC (k : Fin 4) (c : Dev nD) (i : Fin 16) : GSem nD τ sig := cell c (some (k, i))

/-! ## What the cells hand over -/

/-- Device `c`'s elements of a view, at share `q`, holding `f`'s values. -/
abbrev pts {sp : Space} {s : Shape} {e : EltTy} (c : Dev nD) (m : Memref sig .tc sp s e) (q : PosShare TreeShare)
    (f : Buf (Elt F) (m.view.loc (c : Thread nD τ))) : sProp 𝕄 :=
  m.view.loc (c : Thread nD τ) ↦[m.view.set]{q} f

/-- A chunk's credit. -/
abbrev N : ℕ := (recvxRows 0).view.dmaCredit
/-- A chunk's credit is positive. -/
theorem N_pos : 0 < N := View.dmaCredit_pos _ (by decide)

variable (X : Dev nD → Arg F)

/-- What a copy between devices hands over: by family, the sent chunk back, the x-neighbour's chunk, the read half of
    the forwarded chunk back, the y-neighbour's chunk. -/
def xferPay (c : Dev nD) (k : Fin 4) (i : Fin 16) : sProp 𝕄 :=
  match k with
  | 0 => pts c (sendRows i) fullShare (send X c)
  | 1 => pts c (recvxRows i) fullShare (recvx X c)
  | 2 => pts c (recvxRows i) fullShare.left (recvx X c)
  | 3 => pts c (recvyRows i) fullShare (recvy X c)

/-- What device `c`'s cell `q` hands over with duty `d`. -/
def pay (c : Dev nD) (q : Cell) (d : Bool) : sProp 𝕄 :=
  match q with
  | none => if d then iprop(∃ f, ((py c : Dev nD) : Thread nD τ).loc cc0_scratch5 ↦{fullShare} f)
    else iprop(∃ f, ((px c : Dev nD) : Thread nD τ).loc cc0_scratch4 ↦{fullShare} f)
  | some (k, i) => xferPay X c k i

/-- What a cell hands over can be put into an invariant. -/
instance pay_storable (c : Dev nD) (q : Cell) (d : Bool) : BI.Storable (upEmb : UEmb _ 𝕄) (pay X c q d) := by
  match q, d with
  | none, true =>
    show BI.Storable upEmb iprop(∃ f, ((py c : Dev nD) : Thread nD τ).loc cc0_scratch5 ↦{fullShare} f); infer_instance
  | none, false =>
    show BI.Storable upEmb iprop(∃ f, ((px c : Dev nD) : Thread nD τ).loc cc0_scratch4 ↦{fullShare} f); infer_instance
  | some (0, i), d => unfold pay xferPay; infer_instance
  | some (1, i), d => unfold pay xferPay; infer_instance
  | some (2, i), d => unfold pay xferPay; infer_instance
  | some (3, i), d => unfold pay xferPay; infer_instance

/-! ## The schedule -/

/-- A cell's duties. -/
def dutiesOf (q : Cell) : Finset Bool := q.elim Finset.univ fun _ => {false}
/-- The units of one of them. -/
def amountOf (q : Cell) : ℕ := q.elim 1 fun _ => N

/-- Every duty has units. -/
theorem amountOf_pos (q : Cell) : 0 < amountOf q := by
  match q with
  | none => exact Nat.one_pos
  | some _ => exact N_pos

/-- The protocol: one round, with the duties above. -/
def ringRd : Rounds.Schedule (GSem nD τ sig) Bool 𝕄 where
  duties g r := if r = 0 ∧ g.1.2 = .tc then (decode g.2).elim ∅ dutiesOf else ∅
  unitless _ := False
  amount g _ _ := (decode g.2).elim 1 amountOf
  payload g _ d := (decode g.2).elim iprop(emp) fun q => pay X g.1.1 q d
  amount_pos g _ _ _ := by
    match h : decode g.2 with
    | none => exact Nat.one_pos
    | some q => exact amountOf_pos q

/-- So can what the schedule hands over. -/
instance ringRd_payload_storable (g : GSem nD τ sig) (r : ℕ) (d : Bool) :
    BI.Storable (upEmb : UEmb _ 𝕄) ((ringRd X).payload g r d) := by
  show BI.Storable upEmb ((decode g.2).elim iprop(emp) fun q => pay X g.1.1 q d)
  match decode g.2 with
  | none => show BI.Storable upEmb iprop(emp); infer_instance
  | some q => exact pay_storable X g.1.1 q d

/-- The duties of a cell's round. -/
theorem duties_cell (c : Dev nD) (q : Cell) : (ringRd X).duties (cell c q) 0 = dutiesOf q := by
  dsimp only [ringRd]; rw [if_pos ⟨rfl, rfl⟩]
  show (decode (csem q)).elim ∅ dutiesOf = dutiesOf q
  rw [decode_csem]; rfl
/-- Later rounds have none. -/
theorem duties_later (g : GSem nD τ sig) : ∀ r, 1 ≤ r → (ringRd X).duties g r = ∅ :=
  fun r hr => if_neg fun h => by omega
/-- The units of a duty. -/
theorem amount_cell (c : Dev nD) (q : Cell) (d : Bool) : (ringRd X).amount (cell c q) 0 d = amountOf q := by
  show (decode (csem q)).elim 1 amountOf = amountOf q
  rw [decode_csem]; rfl
/-- What a duty hands over. -/
theorem payload_cell (c : Dev nD) (q : Cell) (d : Bool) : (ringRd X).payload (cell c q) 0 d = pay X c q d := by
  show (decode (csem q)).elim iprop(emp) (fun q => pay X c q d) = pay X c q d
  rw [decode_csem]; rfl

/-- A barrier's round is of two units. -/
theorem expect_bar (c : Dev nD) : (ringRd X).expect (barC c) 0 = 2 := by
  unfold Schedule.expect Schedule.amountOf
  rw [duties_cell, Finset.sum_congr rfl fun d _ => amount_cell X c none d]; rfl
/-- The round of another cell is of a chunk's credit. -/
theorem expect_xfer (k : Fin 4) (c : Dev nD) (i : Fin 16) : (ringRd X).expect (xferC k c i) 0 = N := by
  unfold Schedule.expect Schedule.amountOf
  rw [duties_cell, Finset.sum_congr rfl fun d _ => amount_cell X c (some (k, i)) d]
  exact Finset.sum_singleton _ _

/-- All that the barrier's round hands over. -/
theorem rest_bar (c : Dev nD) :
    bigSep ((ringRd X).duties (barC c) 0 \ ∅) (fun d => (ringRd X).payload (barC c) 0 d)
      = iprop(pay X c none false ∗ pay X c none true) := by
  rw [Finset.sdiff_empty, duties_cell, bigSep_congr fun d _ => payload_cell X c none d]
  exact bigSep_univ_eq_bigSepL [false, true] (by decide) (by decide) _
/-- All that another cell's round hands over. -/
theorem rest_xfer (k : Fin 4) (c : Dev nD) (i : Fin 16) :
    bigSep ((ringRd X).duties (xferC k c i) 0 \ ∅) (fun d => (ringRd X).payload (xferC k c i) 0 d)
      = xferPay X c k i := by
  rw [Finset.sdiff_empty, duties_cell, bigSep_congr fun d _ => payload_cell X c (some (k, i)) d]
  exact bigSep_singleton

/-! ## What a device owes, and the levels -/

/-- `base`, and a chunk's credit to each of the cells of the chunks `l`; the first of them outermost. -/
def owedFrom (base : CellTallies nD τ sig Unit) (g : Fin 16 → GSem nD τ sig) : List (Fin 16) → CellTallies nD τ sig Unit
  | [] => base
  | i :: l => owedFrom base g l + tallyAt (g i) () N

/-- What is owed to the y-neighbour when the chunks `l` are still to be forwarded. -/
def owedY (c : Dev nD) (l : List (Fin 16)) : CellTallies nD τ sig Unit := owedFrom 0 (xferC 3 (py c)) l
/-- What is owed when the chunks `l` are still to be sent. -/
def owedX (c : Dev nD) (l : List (Fin 16)) : CellTallies nD τ sig Unit := owedFrom (owedY c chunks) (xferC 1 (px c)) l
/-- What is owed after the first signal. -/
def owed1 (c : Dev nD) : CellTallies nD τ sig Unit := owedX c chunks + tallyAt (barC (py c)) () 1
/-- What is owed at the start. -/
def owed0 (c : Dev nD) : CellTallies nD τ sig Unit := owed1 c + tallyAt (barC (px c)) () 1

/-- The cells that have levels: those of the compute cores. -/
def L (g : GSem nD τ sig) : Finset Unit := if g.1.2 = .tc then {()} else ∅
/-- A cell's level, by its name. -/
def levelOf : Cell → ℕ
  | none => 1
  | some (1, _) => 2
  | some (3, _) => 3
  | some _ => 0
/-- A cell's level. -/
def lv (g : GSem nD τ sig) (_ : Unit) : ℕ := (decode g.2).elim 0 levelOf

/-- No other cell has levels. -/
theorem L_of_ne (g : GSem nD τ sig) (h : g.1.2 ≠ .tc) : L g = ∅ := if_neg h
/-- Every cell of a compute core has one. -/
theorem L_tc (c : Dev nD) (sm : SemLoc sig) : L ((c : Thread nD τ), sm) = {()} := if_pos rfl
/-- A cell's level is that of its name. -/
theorem lv_cell (c : Dev nD) (q : Cell) (u : Unit) : lv (cell c q) u = levelOf q := by
  show (decode (csem q)).elim 0 levelOf = levelOf q
  rw [decode_csem]; rfl

/-- Only cells above level `n` are owed. -/
def Above (n : ℕ) (O : CellTallies nD τ sig Unit) : Prop := ∀ g u, 0 < O g u → g.1.2 = .tc ∧ n < lv g u

/-- Nothing owed is above every level. -/
theorem Above.zero (n : ℕ) : Above n 0 := fun _ _ h => absurd h (Nat.lt_irrefl 0)
/-- One more debt above the level. -/
theorem Above.add {n : ℕ} {O : CellTallies nD τ sig Unit} (h : Above n O) (c : Dev nD) (q : Cell) (hq : n < levelOf q) (k : ℕ) :
    Above n (O + tallyAt (cell c q) () k) := fun g u hg => by
  rw [Pi.add_apply, Finsupp.add_apply, tallyAt_apply] at hg
  by_cases he : g = cell c q ∧ u = ()
  · rw [he.1, lv_cell]; exact ⟨rfl, hq⟩
  · rw [if_neg he] at hg; exact h g u hg
/-- Debts to a whole family above the level. -/
theorem Above.owedFrom {n : ℕ} {O : CellTallies nD τ sig Unit} (h : Above n O) (k : Fin 4) (c : Dev nD)
    (hq : ∀ i, n < levelOf (some (k, i))) (l : List (Fin 16)) : Above n (owedFrom O (xferC k c) l) := by
  induction l with
  | nil => exact h
  | cons i l ih => exact ih.add c _ (hq i) _

/-- The debts to the y-neighbour are above level 2. -/
theorem above_owedY (c : Dev nD) (l : List (Fin 16)) : Above 2 (owedY c l) :=
  (Above.zero 2).owedFrom 3 (py c) (fun _ => (by decide : 2 < 3)) l
/-- The debts to both neighbours are above level 1. -/
theorem above_owedX (c : Dev nD) (l : List (Fin 16)) : Above 1 (owedX c l) :=
  Above.owedFrom (fun g u h => ⟨(above_owedY c chunks g u h).1, Nat.lt_of_succ_lt (above_owedY c chunks g u h).2⟩) 1 (px c)
    (fun _ => (by decide : 1 < 2)) l

omit [FloatOps F] in
/-- A device waits on a cell when it owes only above its level. -/
theorem mayWait {n : ℕ} {O : CellTallies nD τ sig Unit} (hO : Above n O) (c : Dev nD) (sm : SemLoc sig)
    (hsm : lv ((c : Thread nD τ), sm) () ≤ n) : (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by show () ∈ L g; unfold L; rw [if_pos (hO g u hg).1]; exact Finset.mem_singleton_self _)
    (fun p hp => by rw [Finset.mem_singleton.mp hp]; exact hsm)
    (fun g u hg => (hO g u hg).2)

/-- A semaphore below the shared ones has level 0. -/
theorem lv_own (c : Dev nD) (q : DmaSem sig) (h : q.val < 50) : lv ((c : Thread nD τ), .dma q) () = 0 := by
  show (decode (.dma q)).elim 0 levelOf = 0
  rw [show decode (.dma q) = none from if_neg (by omega)]; rfl

/-! ## The invariants -/

/-- All cells' invariants under the names `K`, and that all have reached round 0. -/
def records (K : Dev nD × Cell → ℕ) : sProp 𝕄 :=
  iprop(bigSep Finset.univ (fun p : Dev nD × Cell => iprop(cellInv ER (ringRd X) (K p) (cell p.1 p.2) ∗ reached ER (cell p.1 p.2) 0)))

/-- The invariants may be used again and again. -/
instance records_persistent (K : Dev nD × Cell → ℕ) : BI.Persistent (records X K) := by unfold records; infer_instance

/-- The invariant of one cell. -/
theorem records_cell (K : Dev nD × Cell → ℕ) (c : Dev nD) (q : Cell) :
    records X K ⊢ iprop(cellInv ER (ringRd X) (K (c, q)) (cell c q) ∗ reached ER (cell c q) 0) :=
  bigSep_elim (Finset.mem_univ (c, q))

end Cert.KernelIdeal.Loop

end

end
-- ==== Proof.Steps.lean ====
module

public import proofs.«01_k».proof.Proof.Schedule
public import Idealize.ShloMosaic.Lib.Pipeline.BigSepL

/-! # The steps of the loops

What each loop's body does to one chunk, and the rule for a loop over the chunks. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

local notation "𝕄" => MT nD τ sig Unit (Elt F) ℕ UU ℕ

/-- No variants are used. -/
abbrev 𝒱₀ : Variants := Variants.none

/-- Device `c` runs the program `p` to `Q`. -/
abbrev runs (c : Dev nD) (p : P F) (Q : PUnit → sProp 𝕄) : sProp 𝕄 :=
  wp frame (wpE (defs₀ (F := F)) 𝒱₀ (c : Thread nD τ) none) Set.univ p Q

/-- A device owes `O`, whatever it has waited for. -/
def owing (c : Dev nD) (O : CellTallies nD τ sig Unit) : sProp 𝕄 := iprop(∃ W, owes (c : Thread nD τ) O W)

/-! ## Loops -/

/-- A loop over chunks: a step that takes `Pre i` to `Post i` and the state from `S (i :: l)` to `S l`, done for each. -/
theorem loop (c : Dev nD) (R : sProp 𝕄) [BI.Persistent R] (Pre Post : Fin 16 → sProp 𝕄) (S : List (Fin 16) → sProp 𝕄)
    (f : Fin 16 → P F → P F) (Q : PUnit → sProp 𝕄)
    (step : ∀ i l k, iprop(R ∗ Pre i ∗ S (i :: l)) ⊢ iprop(((Post i ∗ S l) -∗ runs c k Q) -∗ runs c (f i k) Q)) :
    ∀ l k, iprop(R ∗ bigSepL l Pre ∗ S l) ⊢ iprop(((bigSepL l Post ∗ S []) -∗ runs c k Q) -∗ runs c (l.foldr f k) Q) := by
  intro l
  induction l with
  | nil =>
    intro k
    iintro ⟨-, -, HS⟩ Hk
    iapply Hk
    isplitr
    · iempintro
    · iexact HS
  | cons i l ih =>
    intro k
    simp only [bigSepL_cons', List.foldr_cons]
    iintro ⟨#HR, ⟨Hi, Hl⟩, HS⟩ Hk
    iapply (step i l (l.foldr f k)) $$ [Hi HS]
    · isplitr; · iexact HR
      isplitl [Hi] <;> iassumption
    iintro ⟨Hi, HS⟩
    iapply (ih k) $$ [Hl HS]
    · isplitr; · iexact HR
      isplitl [Hl] <;> iassumption
    iintro ⟨Hl, HS⟩
    iapply Hk
    isplitr [HS]
    · isplitl [Hi] <;> iassumption
    · iexact HS

/-- The conjunction over all chunks, taken in the kernel's order. -/
theorem bigSep_chunks (Φ : Fin 16 → sProp 𝕄) : bigSep Finset.univ Φ = bigSepL chunks Φ :=
  bigSep_univ_eq_bigSepL chunks (by decide) (by decide) Φ

/-- The loop over all the chunks. -/
theorem loop_all (c : Dev nD) (R : sProp 𝕄) [BI.Persistent R] (Pre Post : Fin 16 → sProp 𝕄) (S : List (Fin 16) → sProp 𝕄)
    (f : Fin 16 → P F → P F) (Q : PUnit → sProp 𝕄)
    (step : ∀ i l k, iprop(R ∗ Pre i ∗ S (i :: l)) ⊢ iprop(((Post i ∗ S l) -∗ runs c k Q) -∗ runs c (f i k) Q)) (k : P F) :
    iprop(R ∗ bigSep Finset.univ Pre ∗ S chunks)
      ⊢ iprop(((bigSep Finset.univ Post ∗ S []) -∗ runs c k Q) -∗ runs c (each f k) Q) := by
  rw [bigSep_chunks, bigSep_chunks]
  exact loop c R Pre Post S f Q step chunks k

/-! ## Copies -/

/-- A view written with what it reads of `g` holds `g`. -/
theorem pts_write_read {sp : Space} {s : Shape} {e : EltTy} (c : Dev nD) (m : Memref sig .tc sp s e) (q : PosShare TreeShare)
    (f g : Buf (Elt F) (m.view.loc (c : Thread nD τ))) :
    (pts c m q (m.view.write (Elt F) f (m.view.read (Elt F) g) Finset.univ) : sProp 𝕄) = pts c m q g := by
  refine pointsTo_congr fun i hi => ?_
  rw [View.write_read_eq_piecewise]
  exact Finset.piecewise_eq_of_mem _ _ _ hi

/-- A copy within a device on a semaphore at zero: the source and the destination are in flight, and come back with
    the destination holding `g`, where `g` is at the destination what the source holds. -/
theorem copy {sp sp' : Space} {s : Shape} {e : EltTy} (c : Dev nD) (a : Memref sig .tc sp s e) (b : Memref sig .tc sp' s e)
    (sm : DmaSem sig) {ha : a.view.WordExact} {hb : b.view.WordExact} {hsem : (DmaTarget.here b : DmaTarget nD τ sig (.tc : Proc τ) sp' s e).Typed sp (.dma sm)}
    (q : PosShare TreeShare) (f : Buf (Elt F) (a.view.loc (c : Thread nD τ))) (f' g : Buf (Elt F) (b.view.loc (c : Thread nD τ)))
    (h : a.view.read (Elt F) f = b.view.read (Elt F) g) (hs : 0 < s.numel) (k : P F) (Q : PUnit → sProp 𝕄) :
    iprop(pts c a q f ∗ pts c b fullShare f' ∗ semVal ((c : Thread nD τ), .dma sm) 0)
      ⊢ iprop((Transfers.Flight EC (c : Thread nD τ) (.dma sm) () b.view.dmaCredit iprop(pts c b fullShare g ∗ pts c a q f) -∗ runs c k Q)
          -∗ runs c (.op (.enqueueDma a (.here b) (.dma sm) ha hb hsem) fun _ => k) Q) := by
  iintro H Hk
  iapply (Transfers.wp_dmaLocal EC 𝒱₀ (c : Thread nD τ) none () b.view.dmaCredit rfl (View.dmaCredit_pos _ hs) subset_rfl) $$ H
  iintro HF
  iapply Hk
  iapply (Transfers.Flight_mono EC (c : Thread nD τ) (Entails.of_eq (by
    rw [← pts_write_read c b fullShare f' g, ← h]))) $$ HF

/-- The wait for it. -/
theorem copied {sp sp' : Space} {s : Shape} {e : EltTy} (c : Dev nD) (a : Memref sig .tc sp s e) (b : Memref sig .tc sp' s e)
    (sm : DmaSem sig) {ha : a.view.WordExact} {hb : b.view.WordExact} (D : sProp 𝕄) (n : ℕ) (O : CellTallies nD τ sig Unit)
    (hO : Above n O) (hsm : sm.val < 50) (k : P F) (Q : PUnit → sProp 𝕄) :
    iprop(levAts L lv ∗ Transfers.Flight EC (c : Thread nD τ) (.dma sm) () b.view.dmaCredit D ∗ owing c O)
      ⊢ iprop(((D ∗ semVal ((c : Thread nD τ), .dma sm) 0 ∗ owing c O) -∗ runs c k Q)
          -∗ runs c (.op (.waitDma2 sm a b ha hb) fun _ => k) Q) := by
  unfold owing
  iintro ⟨Hlev, HF, ⟨%W, HO⟩⟩ Hk
  iapply (Transfers.wp_waitLocalO EC 𝒱₀ (c : Thread nD τ) none () rfl (O := O) (W := W)) $$ [HF HO Hlev]
  · isplitl [HF]; · iexact HF
    isplitl [HO]; · iexact HO
    iapply (mayWait hO c (.dma sm) ((lv_own c sm hsm).le.trans (Nat.zero_le n))); iexact Hlev
  iintro ⟨HD, Hv, HO⟩
  iapply Hk
  isplitl [HD]; · iexact HD
  isplitl [Hv]; · iexact Hv
  iexists _; iexact HO

/-! ## Copies between devices -/

variable (X : Dev nD → Arg F) (K : Dev nD × Cell → ℕ)

/-- The one duty of a transfer cell. -/
theorem mem_duty (k : Fin 4) (c : Dev nD) (i : Fin 16) : false ∈ (ringRd X).duties (xferC k c i) 0 := by
  rw [duties_cell]; exact Finset.mem_singleton_self _

/-- A copy of chunk `i` to device `d`: it pays one duty here and one there, with what was read and what was written. -/
theorem ship (c d : Dev nD) (a b : Memref sig .tc .vmem S64x512 .bf16) (kS kR : Fin 4) (i : Fin 16)
    {hsc : (b : Memref sig (Dev.tc d : Thread nD τ).2.kind .vmem S64x512 .bf16).view.ref.isScScratch = false}
    {ha : a.view.WordExact} {hb : b.view.WordExact}
    {hsem : DmaTarget.Typed .vmem (.dma (xferS kR i))
      (.remote (Dev.tc d : Thread nD τ) (b : Memref sig (Dev.tc d : Thread nD τ).2.kind .vmem S64x512 .bf16) (.dma (xferS kS i)) hsc)}
    (q : PosShare TreeShare) (f : Buf (Elt F) (a.view.loc (c : Thread nD τ))) (f' g : Buf (Elt F) (b.view.loc (d : Thread nD τ)))
    (h : a.view.read (Elt F) f = b.view.read (Elt F) g) (hN : b.view.dmaCredit = N)
    (hS : pts c a q f = xferPay X c kS i) (hR : pts d b fullShare g = xferPay X d kR i)
    (O : CellTallies nD τ sig Unit) (k : P F) (Q : PUnit → sProp 𝕄) :
    iprop(records X K ∗ pts c a q f ∗ pts d b fullShare f' ∗ owing c (O + tallyAt (xferC kR d i) () N)
        ∗ dutyTok ER (xferC kS c i) 0 false ∗ dutyTok ER (xferC kR d i) 0 false)
      ⊢ iprop(((cred (tallyAt (xferC kS c i) () N) ∗ owing c O) -∗ runs c k Q)
          -∗ runs c (.op (.enqueueDma a (.remote (Dev.tc d) b (.dma (xferS kS i)) hsc) (.dma (xferS kR i)) ha hb hsem) fun _ => k) Q) := by
  unfold owing
  iintro ⟨#HR, Ha, Hb, ⟨%W, HO⟩, HtS, HtR⟩ Hk
  ihave HS := (records_cell X K c (some (kS, i))) $$ HR
  icases HS with ⟨#HIS, #HrS⟩
  ihave HD := (records_cell X K d (some (kR, i))) $$ HR
  icases HD with ⟨#HID, #HrD⟩
  iapply (Rounds.wp_send_pointsTo 𝒱₀ ER (ringRd X) (c : Thread nD τ) none (κ₁ := K (c, some (kS, i))) (κ₂ := K (d, some (kR, i)))
    (r₁ := 0) (r₂ := 0) (d₁ := false) (d₂ := false) (fd := f')
    (sS := .dma (xferS kS i)) (sem := .dma (xferS kR i)) (mem_duty X kS c i) (mem_duty X kR d i)
    () () N hN (amount_cell X c (some (kS, i)) false) (amount_cell X d (some (kR, i)) false) O rfl (W := W)
    (Entails.of_eq (hS.trans (payload_cell X c (some (kS, i)) false).symm))
    (Entails.of_eq (by
      rw [h]; exact ((pts_write_read d b fullShare f' g).trans hR).trans (payload_cell X d (some (kR, i)) false).symm)))
    $$ [Ha Hb HO HtS HtR]
  · isplitr; · iexact HIS
    isplitr; · iexact HID
    isplitl [Ha]; · iexact Ha
    isplitl [Hb]; · iexact Hb
    isplitl [HO]; · iexact HO
    isplitl [HtS]; · iexact HtS
    isplitr; · iexact HrS
    isplitl [HtR]; · iexact HtR
    iexact HrD
  iintro ⟨Hc, HO⟩
  iapply Hk
  isplitl [Hc]; · iexact Hc
  iexists W; iexact HO

/-- The wait for chunk `i` of family `kk`: what its duty handed over, and the semaphore at zero, its one round done. -/
theorem take (c : Dev nD) (kk : Fin 4) (i : Fin 16) (a b : Memref sig .tc .vmem S64x512 .bf16) {ha : a.view.WordExact}
    {hb : b.view.WordExact} (hN : b.view.dmaCredit = N) (n : ℕ) (O : CellTallies nD τ sig Unit) (hO : Above n O)
    (hn : levelOf (some (kk, i)) ≤ n) (k : P F) (Q : PUnit → sProp 𝕄) :
    iprop((records X K ∗ levAts L lv) ∗ atPos ER (xferC kk c i) 0 ∅ 0 ∗ cred (tallyAt (xferC kk c i) () N) ∗ owing c O)
      ⊢ iprop(((xferPay X c kk i ∗ semVal (xferC kk c i) 0 ∗ owing c O) -∗ runs c k Q)
          -∗ runs c (.op (.waitDma2 (xferS kk i) a b ha hb) fun _ => k) Q) := by
  unfold owing
  iintro ⟨⟨#HR, #Hlev⟩, Hat, Hc, ⟨%W, HO⟩⟩ Hk
  ihave HS := (records_cell X K c (some (kk, i))) $$ HR
  icases HS with ⟨#HI, -⟩
  iapply (Rounds.wp_wait_rest_token 𝒱₀ ER (ringRd X) (c : Thread nD τ) none (κ := K (c, some (kk, i)))
      (wpE_waitDma2_eq 𝒱₀ (c : Thread nD τ) none Set.univ) (Set.mem_univ _) () (O := O) (W := W) (R := 0) (m := 0) (T := ∅)
      (by rw [Nat.zero_add]; exact hN.trans (expect_xfer X kk c i).symm)) $$ [Hc HO Hat]
  · isplitr; · iexact HI
    isplitl [Hc]; · rw [hN]; iexact Hc
    isplitl [HO]; · iexact HO
    isplitr; · iapply (mayWait hO c (.dma (xferS kk i)) ((lv_cell c (some (kk, i)) ()).le.trans hn)); iexact Hlev
    iexact Hat
  iintro ⟨HO, Hat, -, Hp⟩
  ihave Hp := (Entails.of_eq (show bigSep ((ringRd X).duties ((c : Thread nD τ), SemLoc.dma (xferS kk i)) 0 \ ∅)
    (fun d => (ringRd X).payload ((c : Thread nD τ), SemLoc.dma (xferS kk i)) 0 d) = _ from rest_xfer X kk c i)) $$ Hp
  imod (Rounds.cell_close ER (ringRd X) (Set.mem_univ (K (c, some (kk, i)))) (fun h => h) (R := 0 + 1)
    (duties_later X (xferC kk c i))) $$ [Hat] with Hz
  · isplitr; · iexact HI
    iexact Hat
  iapply Hk
  isplitl [Hp]; · iexact Hp
  isplitl [Hz]; · iexact Hz
  iexists _; iexact HO

end Cert.KernelIdeal.Loop

end

end
-- ==== Proof.Chunks.lean ====
module

public import proofs.«01_k».proof.Proof.Steps

/-! # One chunk through the loops

For each of the five loops: what a chunk's step takes, what it gives, and that it does. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

local notation "𝕄" => MT nD τ sig Unit (Elt F) ℕ UU ℕ

variable (X : Dev nD → Arg F) (K : Dev nD × Cell → ℕ) (c : Dev nD)

/-! ## The assertions -/

/-- Device `c` holds a view's elements, whatever is in them. -/
abbrev free {sp : Space} {s : Shape} {e : EltTy} (c : Dev nD) (m : Memref sig .tc sp s e) : sProp 𝕄 :=
  iprop(∃ f : Buf (Elt F) (m.view.loc (c : Thread nD τ)), pts c m fullShare f)
/-- A semaphore of device `c`'s own at zero. -/
abbrev sem0 (c : Dev nD) (q : DmaSem sig) : sProp 𝕄 := semVal ((c : Thread nD τ), .dma q) 0
/-- The copy of the view `a`, held at share `q` and holding `f`, to `b`, which then holds `g`. -/
abbrev flying {sp sp' : Space} {s : Shape} {e : EltTy} (c : Dev nD) (sm : DmaSem sig) (a : Memref sig .tc sp s e)
    (b : Memref sig .tc sp' s e) (q : PosShare TreeShare) (f : Buf (Elt F) (a.view.loc (c : Thread nD τ)))
    (g : Buf (Elt F) (b.view.loc (c : Thread nD τ))) : sProp 𝕄 :=
  Transfers.Flight EC (c : Thread nD τ) (.dma sm) () b.view.dmaCredit iprop(pts c b fullShare g ∗ pts c a q f)
/-- The token of the one duty of a cell of a family. -/
abbrev tok (k : Fin 4) (c : Dev nD) (i : Fin 16) : sProp 𝕄 := dutyTok ER (xferC k c i) 0 false
/-- The position at the start of such a cell. -/
abbrev pos (k : Fin 4) (c : Dev nD) (i : Fin 16) : sProp 𝕄 := atPos ER (xferC k c i) 0 ∅ 0
/-- The credit for waiting on it. -/
abbrev due (k : Fin 4) (c : Dev nD) (i : Fin 16) : sProp 𝕄 := cred (tallyAt (xferC k c i) () N)

/-- What every step may use: the invariants and the levels. -/
abbrev known : sProp 𝕄 := iprop(records X K ∗ levAts L lv)

/-- Before a chunk is staged: its rows of the argument, its place in the staging buffer, its semaphore. -/
def stagePre (i : Fin 16) : sProp 𝕄 := iprop(pts c (xRows c i) fullShare (X c) ∗ free c (stageRows i) ∗ sem0 c (inS i))
/-- After: the copy is on its way. -/
def stagePost (i : Fin 16) : sProp 𝕄 := flying c (inS i) (xRows c i) (stageRows i) fullShare (X c) (stage X c)
/-- Before a chunk is sent: it is being staged; its places in the send buffer and in the x-neighbour's receive buffer, and
    both tokens. -/
def sendPre (i : Fin 16) : sProp 𝕄 :=
  iprop(stagePost X c i ∗ free c (sendRows i) ∗ free (px c) (recvxRows i) ∗ tok 0 c i ∗ tok 1 (px c) i)
/-- After: the staged rows and the argument are back, and the credit for the send is due. -/
def sendPost (i : Fin 16) : sProp 𝕄 :=
  iprop(pts c (stageRows i) fullShare (stage X c) ∗ pts c (xRows c i) fullShare (X c) ∗ sem0 c (inS i) ∗ due 0 c i)
/-- Before a chunk is forwarded: it is due from the x-neighbour; its place in the y-neighbour's buffer, both tokens, its rows
    of the result. -/
def forwardPre (i : Fin 16) : sProp 𝕄 :=
  iprop((pos 1 c i ∗ due 1 c i) ∗ free (py c) (recvyRows i) ∗ (tok 2 c i ∗ tok 3 (py c) i) ∗ free c (outX c i) ∗ sem0 c (outXS i))
/-- After: half of the chunk is lent to the copy into the result, the other half to the copy to the y-neighbour. -/
def forwardPost (i : Fin 16) : sProp 𝕄 :=
  iprop(sem0 c (xRecvS i) ∗ due 2 c i ∗ flying c (outXS i) (recvxRows i) (outX c i) fullShare.right (recvx X c) (out X c))
/-- Before a forwarded chunk is taken: it is due from the y-neighbour; its rows of the result. -/
def lastPre (i : Fin 16) : sProp 𝕄 := iprop((pos 3 c i ∗ due 3 c i) ∗ free c (outY c i) ∗ sem0 c (outYS i))
/-- After: its copy into the result is on its way. -/
def lastPost (i : Fin 16) : sProp 𝕄 :=
  iprop(sem0 c (yRecvS i) ∗ flying c (outYS i) (recvyRows i) (outY c i) fullShare (recvy X c) (out X c))
/-- Before the last waits for a chunk: both copies into the result are on their way, and both sends are due. -/
def drainPre (i : Fin 16) : sProp 𝕄 :=
  iprop(flying c (outXS i) (recvxRows i) (outX c i) fullShare.right (recvx X c) (out X c)
    ∗ flying c (outYS i) (recvyRows i) (outY c i) fullShare (recvy X c) (out X c)
    ∗ (pos 0 c i ∗ due 0 c i) ∗ (pos 2 c i ∗ due 2 c i))
/-- After: the chunk's rows of the result are computed, all buffers are back and the counters at zero. -/
def drainPost (i : Fin 16) : sProp 𝕄 :=
  iprop((pts c (outX c i) fullShare (out X c) ∗ sem0 c (outXS i)) ∗ (pts c (outY c i) fullShare (out X c) ∗ sem0 c (outYS i))
    ∗ (pts c (sendRows i) fullShare (send X c) ∗ sem0 c (xSendS i)) ∗ (pts c (recvxRows i) fullShare (recvx X c) ∗ sem0 c (ySendS i))
    ∗ pts c (recvyRows i) fullShare (recvy X c))

/-! ## The steps -/

/-- A staged chunk is not empty. -/
theorem numel_stage : 0 < S64x1024.numel := by decide
/-- A sent chunk is not empty. -/
theorem numel_chunk : 0 < S64x512.numel := by decide
/-- The staging semaphores are not among the shared ones. -/
theorem inS_lt (i : Fin 16) : (inS i).val < 50 := by have := i.isLt; show i.val < 50; omega
/-- Nor are those of the x-neighbour's chunks' copies into the result. -/
theorem outXS_lt (i : Fin 16) : (outXS i).val < 50 := by have := i.isLt; show 18 + i.val < 50; omega
/-- Nor those of the y-neighbour's chunks'. -/
theorem outYS_lt (i : Fin 16) : (outYS i).val < 50 := by have := i.isLt; show 34 + i.val < 50; omega

/-- What is sent is what the x-neighbour is to receive. -/
theorem read_send (i : Fin 16) :
    (sendRows i).view.read (Elt F) (send X c) = (recvxRows i).view.read (Elt F) (recvx X (px c)) := by
  unfold recvx; rw [px_px]; rfl
/-- What is forwarded is what the y-neighbour is to receive. -/
theorem read_forward (i : Fin 16) :
    (recvxRows i).view.read (Elt F) (recvx X c) = (recvyRows i).view.read (Elt F) (recvy X (py c)) := by
  unfold recvy; rw [py_py]; rfl

/-- Staging a chunk. -/
theorem stage_step (i : Fin 16) (l : List (Fin 16)) (k : P F) (Q : PUnit → sProp 𝕄) :
    iprop(known X K ∗ stagePre X c i ∗ emp) ⊢ iprop(((stagePost X c i ∗ emp) -∗ runs c k Q) -∗ runs c (stageStep c i k) Q) := by
  unfold stagePre stagePost stageStep
  iintro ⟨-, ⟨Hx, ⟨%f, Hs⟩, Hv⟩, -⟩ Hk
  iapply (copy c (xRows c i) (stageRows i) (inS i) fullShare (X c) f (stage X c) (read_xRows X c i) numel_stage) $$ [Hx Hs Hv]
  · isplitl [Hx]; · iexact Hx
    isplitl [Hs]; · iexact Hs
    iexact Hv
  iintro H
  iapply Hk
  isplitl [H]; · iexact H
  iempintro

omit [FloatOps F] in
/-- What is loaded of a staged chunk lies in it. -/
theorem send_sub (i : Fin 16) : (Memref.whole cc0_scratch0 : Memref sig .tc .vmem S1024x1024 .f32).view.setOn
    (Rect.unit (s := S1024x1024) (offSend c i) S64x512.size (inb_send c i)).toLoadRect.set ⊆ (stageRows i).view.set := by
  refine (Finset.map_refl (s := (Rect.unit (s := S1024x1024) (offSend c i) S64x512.size (inb_send c i)).toLoadRect.set)).le.trans ?_
  rw [show (stageRows i).view.set = (Rect.unit (s := S1024x1024) ![64 * i.val, 0] S64x1024.size (inb_stage i)).set from
    View.set_slice_whole _ _]
  intro j hj
  rw [Rect.mem_set_unit, Fin.forall_fin_two, offSend_eq] at hj
  rw [Rect.mem_set_unit, Fin.forall_fin_two]
  have h1 : (j 1).val < 1024 := (j 1).isLt
  simp only [Matrix.cons_val_zero, Matrix.cons_val_one] at hj ⊢
  exact ⟨hj.1, Nat.zero_le _, by show (j 1).val < 0 + 1024; omega⟩

omit [FloatOps F] in
/-- The elements that a load from a rectangle of a buffer reads are those of the view of that rectangle. -/
theorem rows_sub (b : Ref sig .tc) (r : Rect b.ty.shape) :
    (Memref.whole b).view.setOn r.toLoadRect.set ⊆ ((Memref.whole b).view.slice r).set :=
  (Finset.map_refl (s := r.toLoadRect.set)).le.trans (View.set_slice_whole b r).symm.le

/-- Sending a chunk to the x-neighbour, rounded. -/
theorem send_step (i : Fin 16) (l : List (Fin 16)) (k : P F) (Q : PUnit → sProp 𝕄) :
    iprop(known X K ∗ sendPre X c i ∗ owing c (owedX c (i :: l)))
      ⊢ iprop(((sendPost X c i ∗ owing c (owedX c l)) -∗ runs c k Q) -∗ runs c (sendStep c i k) Q) := by
  unfold sendPre sendPost stagePost sendStep
  iintro ⟨⟨#HR, #Hlev⟩, ⟨HF, ⟨%f, Hs⟩, ⟨%f', Hd⟩, HtS, HtR⟩, HO⟩ Hk
  iapply (copied c (xRows c i) (stageRows i) (inS i) _ 1 (owedX c (i :: l)) (above_owedX c _) (inS_lt i)) $$ [HF HO]
  · isplitr; · iexact Hlev
    isplitl [HF] <;> iassumption
  iintro ⟨⟨Hst, Hx⟩, Hv, HO⟩
  iapply (wp_load 𝒱₀ (c : Thread nD τ) none Set.univ (m := Memref.whole cc0_scratch0) (send_sub c i)) $$ Hst; iintro Hst
  iapply (wp_load 𝒱₀ (c : Thread nD τ) none Set.univ (m := Memref.whole cc0_scratch3) (r := (rowRect i).toLoadRect) (S := (sendRows i).view.set)
    (rows_sub cc0_scratch3 (rowRect i))) $$ Hs; iintro Hs
  ihave Hs := (Entails.of_eq (show ((Memref.whole cc0_scratch3).view.loc (c : Thread nD τ) ↦[(sendRows i).view.set]{fullShare} f : sProp 𝕄)
    = (((Memref.whole cc0_scratch3).access (rowRect i)).loc (c : Thread nD τ)
      ↦[((Memref.whole cc0_scratch3).access (rowRect i)).setOn Finset.univ]{fullShare} f) from rfl)) $$ Hs
  rw [conv_send]
  iapply (wp_store 𝒱₀ (c : Thread nD τ) none Set.univ (m := Memref.whole cc0_scratch3) (r := rowRect i) (Mk := Finset.univ) subset_rfl) $$ Hs
  iintro Hs
  ihave Hs := (Entails.of_eq (show (((Memref.whole cc0_scratch3).access (rowRect i)).loc (c : Thread nD τ)
      ↦[((Memref.whole cc0_scratch3).access (rowRect i)).setOn Finset.univ]{fullShare}
        ((Memref.whole cc0_scratch3).access (rowRect i)).write (Elt F) f ((sendRows i).view.read (Elt F) (send X c)) Finset.univ : sProp 𝕄)
    = pts c (sendRows i) fullShare (send X c) from pts_write_read c (sendRows i) fullShare f (send X c))) $$ Hs
  iapply (ship X K c (px c) (sendRows i) (recvxRows i) 0 1 i fullShare (send X c) f' (recvx X (px c))
    (read_send X c i) rfl rfl rfl (owedX c l)) $$ [Hs Hd HO HtS HtR]
  · isplitr; · iexact HR
    isplitl [Hs]; · iexact Hs
    isplitl [Hd]; · iexact Hd
    isplitl [HO]; · iexact HO
    isplitl [HtS] <;> iassumption
  iintro ⟨Hc, HO⟩
  iapply Hk
  isplitr [HO]
  · isplitl [Hst]; · iexact Hst
    isplitl [Hx]; · iexact Hx
    isplitl [Hv] <;> iassumption
  · iexact HO

/-- Taking a chunk from the x-neighbour, forwarding it and copying it into the result. -/
theorem forward_step (i : Fin 16) (l : List (Fin 16)) (k : P F) (Q : PUnit → sProp 𝕄) :
    iprop(known X K ∗ forwardPre c i ∗ owing c (owedY c (i :: l)))
      ⊢ iprop(((forwardPost X c i ∗ owing c (owedY c l)) -∗ runs c k Q) -∗ runs c (forwardStep c i k) Q) := by
  unfold forwardPre forwardPost forwardStep
  iintro ⟨#HR, ⟨Hin, ⟨%f', Hd⟩, ⟨HtS, HtR⟩, ⟨%f, Ho⟩, Hv⟩, HO⟩ Hk
  icases Hin with ⟨Hat, Hc⟩
  iapply (take X K c 1 i (sendRows i) (recvxRows i) rfl 2 (owedY c (i :: l)) (above_owedY c _) le_rfl) $$ [Hat Hc HO]
  · isplitr; · iexact HR
    isplitl [Hat]; · iexact Hat
    isplitl [Hc] <;> iassumption
  iintro ⟨Hp, Hz, HO⟩
  ihave Hz := (Entails.of_eq (show semVal (xferC 1 c i) 0 = (sem0 c (xRecvS i) : sProp 𝕄) from rfl)) $$ Hz
  ihave Hp := (show xferPay X c 1 i ⊢ iprop(pts c (recvxRows i) fullShare.left (recvx X c) ∗ pts c (recvxRows i) fullShare.right (recvx X c))
    from (pointsTo_share (PosShare.mem_left_op_right _)).1) $$ Hp
  icases Hp with ⟨Hl, Hr⟩
  iapply (ship X K c (py c) (recvxRows i) (recvyRows i) 2 3 i fullShare.left (recvx X c) f' (recvy X (py c))
    (read_forward X c i) rfl rfl rfl (owedY c l)) $$ [Hl Hd HO HtS HtR]
  · isplitr; · icases HR with ⟨HR, -⟩; iexact HR
    isplitl [Hl]; · iexact Hl
    isplitl [Hd]; · iexact Hd
    isplitl [HO]; · iexact HO
    isplitl [HtS] <;> iassumption
  iintro ⟨Hc, HO⟩
  iapply (copy c (recvxRows i) (outX c i) (outXS i) fullShare.right (recvx X c) f (out X c) (read_outX X c i) numel_chunk) $$ [Hr Ho Hv]
  · isplitl [Hr]; · iexact Hr
    isplitl [Ho] <;> iassumption
  iintro HF
  iapply Hk
  isplitr [HO]
  · isplitl [Hz]; · iexact Hz
    isplitl [Hc] <;> iassumption
  · iexact HO

/-- Taking a forwarded chunk and copying it into the result. -/
theorem last_step (i : Fin 16) (l : List (Fin 16)) (k : P F) (Q : PUnit → sProp 𝕄) :
    iprop(known X K ∗ lastPre c i ∗ owing c 0)
      ⊢ iprop(((lastPost X c i ∗ owing c 0) -∗ runs c k Q) -∗ runs c (lastStep c i k) Q) := by
  unfold lastPre lastPost lastStep
  iintro ⟨#HR, ⟨⟨Hat, Hc⟩, ⟨%f, Ho⟩, Hv⟩, HO⟩ Hk
  iapply (take X K c 3 i (recvxRows i) (recvyRows i) rfl 3 0 (Above.zero 3) le_rfl) $$ [Hat Hc HO]
  · isplitr; · iexact HR
    isplitl [Hat]; · iexact Hat
    isplitl [Hc] <;> iassumption
  iintro ⟨Hp, Hz, HO⟩
  ihave Hz := (Entails.of_eq (show semVal (xferC 3 c i) 0 = (sem0 c (yRecvS i) : sProp 𝕄) from rfl)) $$ Hz
  ihave Hp := (Entails.of_eq (show xferPay X c 3 i = pts c (recvyRows i) fullShare (recvy X c) from rfl)) $$ Hp
  iapply (copy c (recvyRows i) (outY c i) (outYS i) fullShare (recvy X c) f (out X c) (read_outY X c i) numel_chunk) $$ [Hp Ho Hv]
  · isplitl [Hp]; · iexact Hp
    isplitl [Ho] <;> iassumption
  iintro HF
  iapply Hk
  isplitr [HO]
  · isplitl [Hz] <;> iassumption
  · iexact HO

/-- The four last waits for a chunk. -/
theorem drain_step (i : Fin 16) (l : List (Fin 16)) (k : P F) (Q : PUnit → sProp 𝕄) :
    iprop(known X K ∗ drainPre X c i ∗ owing c 0)
      ⊢ iprop(((drainPost X c i ∗ owing c 0) -∗ runs c k Q) -∗ runs c (drainStep c i k) Q) := by
  have hi := i.isLt
  unfold drainPre drainPost drainStep
  iintro ⟨⟨#HR, #Hlev⟩, ⟨HX, HY, ⟨Hat, Hc⟩, ⟨Hat', Hc'⟩⟩, HO⟩ Hk
  iapply (copied c (recvxRows i) (outX c i) (outXS i) _ 0 0 (Above.zero 0) (outXS_lt i)) $$ [HX HO]
  · isplitr; · iexact Hlev
    isplitl [HX] <;> iassumption
  iintro ⟨⟨HoX, Hr⟩, HvX, HO⟩
  iapply (copied c (recvyRows i) (outY c i) (outYS i) _ 0 0 (Above.zero 0) (outYS_lt i)) $$ [HY HO]
  · isplitr; · iexact Hlev
    isplitl [HY] <;> iassumption
  iintro ⟨⟨HoY, Hy⟩, HvY, HO⟩
  iapply (take X K c 0 i (recvxRows i) (sendRows i) rfl 0 0 (Above.zero 0) le_rfl) $$ [Hat Hc HO]
  · isplitr
    · isplitr <;> iassumption
    isplitl [Hat]; · iexact Hat
    isplitl [Hc] <;> iassumption
  iintro ⟨Hp, Hz, HO⟩
  ihave Hp := (Entails.of_eq (show xferPay X c 0 i = pts c (sendRows i) fullShare (send X c) from rfl)) $$ Hp
  ihave Hz := (Entails.of_eq (show semVal (xferC 0 c i) 0 = (sem0 c (xSendS i) : sProp 𝕄) from rfl)) $$ Hz
  iapply (take X K c 2 i (recvyRows i) (recvxRows i) rfl 0 0 (Above.zero 0) le_rfl) $$ [Hat' Hc' HO]
  · isplitr
    · isplitr <;> iassumption
    isplitl [Hat']; · iexact Hat'
    isplitl [Hc'] <;> iassumption
  iintro ⟨Hl, Hz', HO⟩
  ihave Hz' := (Entails.of_eq (show semVal (xferC 2 c i) 0 = (sem0 c (ySendS i) : sProp 𝕄) from rfl)) $$ Hz'
  ihave Hr := (show iprop(xferPay X c 2 i ∗ pts c (recvxRows i) fullShare.right (recvx X c)) ⊢ pts c (recvxRows i) fullShare (recvx X c)
    from (pointsTo_share (PosShare.mem_left_op_right _)).2) $$ [Hl Hr]
  · isplitl [Hl] <;> iassumption
  iapply Hk
  isplitr [HO]
  · isplitl [HoX HvX]; · isplitl [HoX] <;> iassumption
    isplitl [HoY HvY]; · isplitl [HoY] <;> iassumption
    isplitl [Hp Hz]; · isplitl [Hp] <;> iassumption
    isplitl [Hr Hz']; · isplitl [Hr] <;> iassumption
    iexact Hy
  · iexact HO

end Cert.KernelIdeal.Loop

end

end
-- ==== Proof.Pieces.lean ====
module

public import proofs.«01_k».proof.Proof.Chunks

/-! # The buffers in pieces

Each buffer that the loops go through is the union of its chunks, and the result that of the device's own half and
the chunks from the two neighbours. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]

attribute [local instance] Cert.KernelIdeal.Gen.facts

local notation "𝕄" => MT nD τ sig Unit (Elt F) ℕ UU ℕ

/-- Rectangles of the same size and columns whose first rows lie apart are disjoint. -/
theorem rows_apart {s : Shape} {o o' size : Fin s.rank → Nat} (a : Fin s.rank) {h h'} (hd : o a + size a ≤ o' a ∨ o' a + size a ≤ o a) :
    Disjoint (Rect.unit (s := s) o size h).set (Rect.unit (s := s) o' size h').set :=
  Rect.unit_disjoint a hd

/-! ## Chunks of 64 rows -/

/-- Chunks of an exchange buffer do not overlap. -/
theorem rows_disjoint : ∀ i ∈ Finset.univ, ∀ j ∈ Finset.univ, i ≠ j → Disjoint (rowRect i).set (rowRect j).set := by
  intro i _ j _ hij
  refine rows_apart 0 ?_
  have : i.val ≠ j.val := fun h => hij (Fin.ext h)
  show 64 * i.val + 64 ≤ 64 * j.val ∨ 64 * j.val + 64 ≤ 64 * i.val
  omega
/-- Together they are the buffer. -/
theorem rows_cover : (Finset.univ : Finset (Fin 16)).biUnion (fun i => (rowRect i).set) = Finset.univ := by
  refine Finset.eq_univ_of_forall fun j => ?_
  have h0 : (j 0).val < 1024 := (j 0).isLt
  have h1 : (j 1).val < 512 := (j 1).isLt
  refine Finset.mem_biUnion.mpr ⟨⟨(j 0).val / 64, by omega⟩, Finset.mem_univ _, ?_⟩
  rw [Rect.mem_set_unit, Fin.forall_fin_two]
  show (64 * ((j 0).val / 64) ≤ (j 0).val ∧ (j 0).val < 64 * ((j 0).val / 64) + 64) ∧ (0 ≤ (j 1).val ∧ (j 1).val < 0 + 512)
  omega
/-- The rows of a chunk in the staging buffer. -/
abbrev stageRect (i : Fin 16) : Rect S1024x1024 := Rect.unit (s := S1024x1024) ![64 * i.val, 0] S64x1024.size (inb_stage i)
/-- Chunks of the staging buffer do not overlap. -/
theorem stage_disjoint : ∀ i ∈ Finset.univ, ∀ j ∈ Finset.univ, i ≠ j → Disjoint (stageRect i).set (stageRect j).set := by
  intro i _ j _ hij
  refine rows_apart 0 ?_
  have : i.val ≠ j.val := fun h => hij (Fin.ext h)
  show 64 * i.val + 64 ≤ 64 * j.val ∨ 64 * j.val + 64 ≤ 64 * i.val
  omega
/-- Together they are the buffer. -/
theorem stage_cover : (Finset.univ : Finset (Fin 16)).biUnion (fun i => (stageRect i).set) = Finset.univ := by
  refine Finset.eq_univ_of_forall fun j => ?_
  have h0 : (j 0).val < 1024 := (j 0).isLt
  have h1 : (j 1).val < 1024 := (j 1).isLt
  refine Finset.mem_biUnion.mpr ⟨⟨(j 0).val / 64, by omega⟩, Finset.mem_univ _, ?_⟩
  rw [Rect.mem_set_unit, Fin.forall_fin_two]
  show (64 * ((j 0).val / 64) ≤ (j 0).val ∧ (j 0).val < 64 * ((j 0).val / 64) + 64) ∧ (0 ≤ (j 1).val ∧ (j 1).val < 0 + 1024)
  omega

/-- What is held over disjoint sets is held over each of them. -/
theorem pieces {ℓ : Loc nD τ sig} (A B : Fin 16 → Finset (Idx ℓ)) (hA : ∀ i, A i = B i)
    (hd : ∀ i ∈ Finset.univ, ∀ j ∈ Finset.univ, i ≠ j → Disjoint (B i) (B j)) {T : Finset (Idx ℓ)}
    (hc : Finset.univ.biUnion B = T) (f : Buf (Elt F) ℓ) :
    (ℓ ↦[T]{fullShare} f : sProp 𝕄) = bigSep Finset.univ fun i => ℓ ↦[A i]{fullShare} f := by
  rw [← hc, pointsTo_biUnion Finset.univ B hd]
  exact bigSep_congr fun i _ => by rw [hA i]

variable (c : Dev nD)

/-- The staging buffer, chunk by chunk. -/
theorem stage_pieces (f : Buf (Elt F) ((c : Thread nD τ).loc cc0_scratch0)) :
    ((c : Thread nD τ).loc cc0_scratch0 ↦{fullShare} f : sProp 𝕄) = bigSep Finset.univ fun i => pts c (stageRows i) fullShare f :=
  pieces (ℓ := (c : Thread nD τ).loc cc0_scratch0) (fun i => (stageRows i).view.set) (fun i => (stageRect i).set) (fun _ => View.set_slice_whole _ _)
    stage_disjoint stage_cover f
/-- The send buffer, chunk by chunk. -/
theorem send_pieces (f : Buf (Elt F) ((c : Thread nD τ).loc cc0_scratch3)) :
    ((c : Thread nD τ).loc cc0_scratch3 ↦{fullShare} f : sProp 𝕄) = bigSep Finset.univ fun i => pts c (sendRows i) fullShare f :=
  pieces (ℓ := (c : Thread nD τ).loc cc0_scratch3) (fun i => (sendRows i).view.set) (fun i => (rowRect i).set) (fun _ => View.set_slice_whole _ _)
    rows_disjoint rows_cover f
/-- The buffer for the x-neighbour's chunks, chunk by chunk. -/
theorem recvx_pieces (f : Buf (Elt F) ((c : Thread nD τ).loc cc0_scratch4)) :
    ((c : Thread nD τ).loc cc0_scratch4 ↦{fullShare} f : sProp 𝕄) = bigSep Finset.univ fun i => pts c (recvxRows i) fullShare f :=
  pieces (ℓ := (c : Thread nD τ).loc cc0_scratch4) (fun i => (recvxRows i).view.set) (fun i => (rowRect i).set) (fun _ => View.set_slice_whole _ _)
    rows_disjoint rows_cover f
/-- The buffer for the y-neighbour's chunks, chunk by chunk. -/
theorem recvy_pieces (f : Buf (Elt F) ((c : Thread nD τ).loc cc0_scratch5)) :
    ((c : Thread nD τ).loc cc0_scratch5 ↦{fullShare} f : sProp 𝕄) = bigSep Finset.univ fun i => pts c (recvyRows i) fullShare f :=
  pieces (ℓ := (c : Thread nD τ).loc cc0_scratch5) (fun i => (recvyRows i).view.set) (fun i => (rowRect i).set) (fun _ => View.set_slice_whole _ _)
    rows_disjoint rows_cover f

/-- Pieces that are held are free. -/
theorem free_pieces {sp : Space} {s : Shape} {e : EltTy} (m : Fin 16 → Memref sig .tc sp s e)
    (f : ∀ i, Buf (Elt F) ((m i).view.loc (c : Thread nD τ))) :
    (bigSep Finset.univ fun i => pts c (m i) fullShare (f i) : sProp 𝕄) ⊢ bigSep Finset.univ fun i => free c (m i) :=
  bigSep_mono fun i _ => by
    show (pts c (m i) fullShare (f i) : sProp 𝕄) ⊢ free c (m i)
    iintro H
    iexists (f i)
    iexact H

/-! ## The argument -/

/-- The rows of a chunk in the argument. -/
abbrev xRect (i : Fin 16) : Rect S2048x1024 :=
  Rect.unit (s := S2048x1024) (k0_off1 c (BitVec.ofNat 32 (64 * i.val))) S64x1024.size (k0_off1_inb c i)
/-- They do not overlap. -/
theorem x_disjoint : ∀ i ∈ Finset.univ, ∀ j ∈ Finset.univ, i ≠ j → Disjoint (xRect c i).set (xRect c j).set := by
  intro i _ j _ hij
  refine rows_apart 0 ?_
  have : i.val ≠ j.val := fun h => hij (Fin.ext h)
  rw [k0_off1_eq, k0_off1_eq]
  show 1024 * (c.val % 2) + 64 * i.val + 64 ≤ 1024 * (c.val % 2) + 64 * j.val
    ∨ 1024 * (c.val % 2) + 64 * j.val + 64 ≤ 1024 * (c.val % 2) + 64 * i.val
  omega
/-- The quarter that is copied in directly is apart from all chunks. -/
theorem rest_apart : (Rect.unit (s := S2048x1024) (k0_off2 c) S1024x512.size (k0_off2_inb c)).set
    ⊆ Finset.univ \ Finset.univ.biUnion (fun i => (xRect c i).set) := by
  refine fun j hj => Finset.mem_sdiff.mpr ⟨Finset.mem_univ _, fun h => ?_⟩
  obtain ⟨i, -, hi⟩ := Finset.mem_biUnion.mp h
  rw [Rect.mem_set_unit, k0_off2_eq] at hj
  rw [Rect.mem_set_unit, k0_off1_eq] at hi
  have hj := hj 0
  have hi := hi 0
  have := i.isLt
  change 1024 - 1024 * (c.val % 2) ≤ (j 0).val ∧ (j 0).val < 1024 - 1024 * (c.val % 2) + 1024 at hj
  change 1024 * (c.val % 2) + 64 * i.val ≤ (j 0).val ∧ (j 0).val < 1024 * (c.val % 2) + 64 * i.val + 64 at hi
  omega

/-- The part of the argument that the device does not read. -/
def unread : Finset S2048x1024.Idx :=
  (Finset.univ \ Finset.univ.biUnion (fun i => (xRect c i).set))
    \ (Rect.unit (s := S2048x1024) (k0_off2 c) S1024x512.size (k0_off2_inb c)).set

/-- The argument: its chunks, that quarter, and what is not read. -/
theorem x_pieces (f : Buf (Elt F) ((c : Thread nD τ).loc main_arg0)) :
    ((c : Thread nD τ).loc main_arg0 ↦{fullShare} f : sProp 𝕄)
      ⊣⊢ iprop((bigSep Finset.univ fun i => pts c (xRows c i) fullShare f) ∗ pts c (xRest c) fullShare f
        ∗ ((c : Thread nD τ).loc main_arg0 ↦[unread c]{fullShare} f)) := by
  rw [← pieces (ℓ := (c : Thread nD τ).loc main_arg0) (fun i => (xRows c i).view.set) (fun i => (xRect c i).set)
    (fun _ => View.set_slice_whole _ _) (x_disjoint c) rfl f]
  unfold pts
  rw [show (xRest c).view.set = (Rect.unit (s := S2048x1024) (k0_off2 c) S1024x512.size (k0_off2_inb c)).set from View.set_slice_whole _ _]
  exact ⟨(pointsTo_split_subset (Finset.subset_univ _)).1.trans (sep_mono_right (pointsTo_split_subset (rest_apart c)).1),
    (sep_mono_right (pointsTo_split_subset (rest_apart c)).2).trans (pointsTo_split_subset (Finset.subset_univ _)).2⟩

/-! ## The result -/

/-- The rows of the result that the device's own half fills. -/
abbrev ownRect : Rect S4096x512 := Rect.unit (s := S4096x512) (k0_off22 c) S2048x512.size (k0_off22_inb c)
/-- Those that a chunk from the x-neighbour fills. -/
abbrev outXRect (i : Fin 16) : Rect S4096x512 :=
  Rect.unit (s := S4096x512) (k0_off23 c (BitVec.ofNat 32 (64 * i.val))) S64x512.size (k0_off23_inb c i)
/-- Those that a forwarded chunk fills. -/
abbrev outYRect (i : Fin 16) : Rect S4096x512 :=
  Rect.unit (s := S4096x512) (k0_off24 c (BitVec.ofNat 32 (64 * i.val))) S64x512.size (k0_off24_inb c i)

/-- The own half's rows, as numbers. -/
theorem mem_own (j : S4096x512.Idx) : j ∈ (ownRect c).set ↔ 2048 * (c.val / 2) ≤ (j 0).val ∧ (j 0).val < 2048 * (c.val / 2) + 2048 := by
  have h1 : (j 1).val < 512 := (j 1).isLt
  rw [Rect.mem_set_unit, k0_off22_eq, Fin.forall_fin_two]
  exact ⟨fun h => h.1, fun h => ⟨h, Nat.zero_le _, by show (j 1).val < 0 + 512; omega⟩⟩
/-- The rows of a chunk from the x-neighbour, as numbers. -/
theorem mem_outX (i : Fin 16) (j : S4096x512.Idx) : j ∈ (outXRect c i).set ↔
    1024 * (c.val % 2) + 64 * i.val + 2048 - 2048 * (c.val / 2) ≤ (j 0).val
      ∧ (j 0).val < 1024 * (c.val % 2) + 64 * i.val + 2048 - 2048 * (c.val / 2) + 64 := by
  have h1 : (j 1).val < 512 := (j 1).isLt
  rw [Rect.mem_set_unit, k0_off23_eq, Fin.forall_fin_two]
  exact ⟨fun h => h.1, fun h => ⟨h, Nat.zero_le _, by show (j 1).val < 0 + 512; omega⟩⟩
/-- The rows of a forwarded chunk, as numbers. -/
theorem mem_outY (i : Fin 16) (j : S4096x512.Idx) : j ∈ (outYRect c i).set ↔
    64 * i.val + 3072 - (2048 * (c.val / 2) + 1024 * (c.val % 2)) ≤ (j 0).val
      ∧ (j 0).val < 64 * i.val + 3072 - (2048 * (c.val / 2) + 1024 * (c.val % 2)) + 64 := by
  have h1 : (j 1).val < 512 := (j 1).isLt
  rw [Rect.mem_set_unit, k0_off24_eq, Fin.forall_fin_two]
  exact ⟨fun h => h.1, fun h => ⟨h, Nat.zero_le _, by show (j 1).val < 0 + 512; omega⟩⟩

/-- Chunks from the x-neighbour do not overlap in the result. -/
theorem outX_disjoint : ∀ i ∈ Finset.univ, ∀ j ∈ Finset.univ, i ≠ j → Disjoint (outXRect c i).set (outXRect c j).set := by
  intro i _ j _ hij
  refine Finset.disjoint_left.mpr fun x hx hx' => hij (Fin.ext ?_)
  rw [mem_outX] at hx hx'
  have hc : c.val < 4 := c.isLt
  omega
/-- Nor do forwarded chunks. -/
theorem outY_disjoint : ∀ i ∈ Finset.univ, ∀ j ∈ Finset.univ, i ≠ j → Disjoint (outYRect c i).set (outYRect c j).set := by
  intro i _ j _ hij
  refine Finset.disjoint_left.mpr fun x hx hx' => hij (Fin.ext ?_)
  rw [mem_outY] at hx hx'
  have hc : c.val < 4 := c.isLt
  omega
/-- Nor those with these. -/
theorem outXY_disjoint : Disjoint ((Finset.univ : Finset (Fin 16)).biUnion fun i => (outXRect c i).set)
    ((Finset.univ : Finset (Fin 16)).biUnion fun i => (outYRect c i).set) := by
  refine Finset.disjoint_left.mpr fun x hx hx' => ?_
  obtain ⟨i, -, hi⟩ := Finset.mem_biUnion.mp hx
  obtain ⟨j, -, hj⟩ := Finset.mem_biUnion.mp hx'
  rw [mem_outX] at hi
  rw [mem_outY] at hj
  have := i.isLt
  have := j.isLt
  have hc : c.val < 4 := c.isLt
  omega
/-- The own half is apart from all chunks. -/
theorem own_disjoint : Disjoint (ownRect c).set (((Finset.univ : Finset (Fin 16)).biUnion fun i => (outXRect c i).set)
    ∪ (Finset.univ : Finset (Fin 16)).biUnion fun i => (outYRect c i).set) := by
  have hc : c.val < 4 := c.isLt
  refine Finset.disjoint_left.mpr fun x hx hx' => ?_
  rw [mem_own] at hx
  rcases Finset.mem_union.mp hx' with h | h
  · obtain ⟨i, -, hi⟩ := Finset.mem_biUnion.mp h
    rw [mem_outX] at hi
    have := i.isLt
    omega
  · obtain ⟨i, -, hi⟩ := Finset.mem_biUnion.mp h
    rw [mem_outY] at hi
    have := i.isLt
    omega
/-- Own half and chunks are the whole result. -/
theorem out_cover : (Finset.univ : Finset S4096x512.Idx) = (ownRect c).set ∪
    (((Finset.univ : Finset (Fin 16)).biUnion fun i => (outXRect c i).set)
      ∪ (Finset.univ : Finset (Fin 16)).biUnion fun i => (outYRect c i).set) := by
  have hc : c.val < 4 := c.isLt
  refine (Finset.eq_univ_of_forall fun x => ?_).symm
  have h0 : (x 0).val < 4096 := (x 0).isLt
  have hi : (x 0).val % 1024 / 64 < 16 := by omega
  rw [Finset.mem_union, Finset.mem_union, mem_own]
  by_cases h : (x 0).val / 2048 = c.val / 2
  · exact Or.inl (by omega)
  refine Or.inr ?_
  by_cases h' : (x 0).val % 2048 / 1024 = c.val % 2
  · refine Or.inl (Finset.mem_biUnion.mpr ⟨⟨(x 0).val % 1024 / 64, hi⟩, Finset.mem_univ _, ?_⟩)
    rw [mem_outX]
    show _ + 64 * ((x 0).val % 1024 / 64) + _ - _ ≤ _ ∧ _ < _ + 64 * ((x 0).val % 1024 / 64) + _ - _ + _
    omega
  · refine Or.inr (Finset.mem_biUnion.mpr ⟨⟨(x 0).val % 1024 / 64, hi⟩, Finset.mem_univ _, ?_⟩)
    rw [mem_outY]
    show 64 * ((x 0).val % 1024 / 64) + _ - _ ≤ _ ∧ _ < 64 * ((x 0).val % 1024 / 64) + _ - _ + _
    omega

/-- The result: the own half and the two families of chunks. -/
theorem out_pieces (f : Buf (Elt F) ((c : Thread nD τ).loc main_v1)) :
    ((c : Thread nD τ).loc main_v1 ↦{fullShare} f : sProp 𝕄)
      ⊣⊢ iprop(pts c (outOwn c) fullShare f ∗ (bigSep Finset.univ fun i => pts c (outX c i) fullShare f)
        ∗ bigSep Finset.univ fun i => pts c (outY c i) fullShare f) := by
  rw [← pieces (ℓ := (c : Thread nD τ).loc main_v1) (fun i => (outX c i).view.set) (fun i => (outXRect c i).set)
      (fun _ => View.set_slice_whole _ _) (outX_disjoint c) rfl f,
    ← pieces (ℓ := (c : Thread nD τ).loc main_v1) (fun i => (outY c i).view.set) (fun i => (outYRect c i).set)
      (fun _ => View.set_slice_whole _ _) (outY_disjoint c) rfl f]
  unfold pts
  rw [show (outOwn c).view.set = (ownRect c).set from View.set_slice_whole _ _]
  rw [show (Finset.univ : Finset (Idx ((c : Thread nD τ).loc main_v1))) = _ from out_cover c]
  exact ⟨(pointsTo_union (own_disjoint c)).1.trans (sep_mono_right (pointsTo_union (outXY_disjoint c)).1),
    (sep_mono_right (pointsTo_union (outXY_disjoint c)).2).trans (pointsTo_union (own_disjoint c)).2⟩

end Cert.KernelIdeal.Loop

end

end
-- ==== Proof.Body.lean ====
module

public import proofs.«01_k».proof.Proof.Pieces

/-! # The body

What a device holds at the start of the kernel's body and at its end, and that the body takes the one to the other:
the loops one after another, and the handshake and the device's own half between them. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

local notation "𝕄" => MT nD τ sig Unit (Elt F) ℕ UU ℕ

variable (X : Dev nD → Arg F) (K : Dev nD × Cell → ℕ) (c : Dev nD)

/-! ## The handshake -/

/-- Device `c` holds all of a buffer, whatever is in it. -/
abbrev someBuf (c : Dev nD) (b : Ref sig .tc) : sProp 𝕄 := iprop(∃ f, (c : Thread nD τ).loc b ↦{fullShare} f)

/-- Both duties of the barrier are there. -/
theorem mem_duty_bar (c : Dev nD) (d : Bool) : d ∈ (ringRd X).duties (barC c) 0 := by
  rw [duties_cell]; exact Finset.mem_univ _

/-- The payload of the duty that `c` pays its x-neighbour: its own buffer. -/
theorem pay_px : (ringRd X).payload (barC (px c)) 0 false = someBuf c cc0_scratch4 := by
  rw [payload_cell]
  show (iprop(∃ f, ((px (px c) : Dev nD) : Thread nD τ).loc cc0_scratch4 ↦{fullShare} f) : sProp 𝕄) = _
  rw [px_px]
/-- The payload of the duty that `c` pays its y-neighbour. -/
theorem pay_py : (ringRd X).payload (barC (py c)) 0 true = someBuf c cc0_scratch5 := by
  rw [payload_cell]
  show (iprop(∃ f, ((py (py c) : Dev nD) : Thread nD τ).loc cc0_scratch5 ↦{fullShare} f) : sProp 𝕄) = _
  rw [py_py]

/-- The handshake: a device gives its two receive buffers away, and after the wait holds the two of its neighbours that it
    will write. -/
theorem meet_step (k : P F) (Q : PUnit → sProp 𝕄) :
    iprop(known X K ∗ (dutyTok ER (barC (px c)) 0 false ∗ dutyTok ER (barC (py c)) 0 true)
        ∗ (someBuf c cc0_scratch4 ∗ someBuf c cc0_scratch5)
        ∗ (atPos ER (barC c) 0 ∅ 0 ∗ cred (tallyAt (barC c) () 2)) ∗ owing c (owed0 c))
      ⊢ iprop(((bigSep Finset.univ (fun i => free (px c) (recvxRows i)) ∗ bigSep Finset.univ (fun i => free (py c) (recvyRows i))
            ∗ semVal (barC c) 0 ∗ owing c (owedX c chunks)) -∗ runs c k Q) -∗ runs c (meet c k) Q) := by
  unfold meet owing
  rw [dev1_eq, dev2_eq]
  iintro ⟨⟨#HR, #Hlev⟩, ⟨Hf, Ht⟩, ⟨Hbx, Hby⟩, ⟨Hat, Hc⟩, ⟨%W, HO⟩⟩ Hk
  ihave HX := (records_cell X K (px c) none) $$ HR
  icases HX with ⟨#HIX, #HrX⟩
  ihave HY := (records_cell X K (py c) none) $$ HR
  icases HY with ⟨#HIY, #HrY⟩
  ihave HC := (records_cell X K c none) $$ HR
  icases HC with ⟨#HIC, #HrC⟩
  iapply (Rounds.wp_signal 𝒱₀ ER (ringRd X) (c : Thread nD τ) none (dst := (px c : Thread nD τ)) (κ := K (px c, none))
      (d := false) (mem_duty_bar X (px c) false) (amount_cell X (px c) none false) () (owed1 c) rfl) $$ [HO Hf Hbx]
  · isplitr; · iexact HIX
    isplitl [HO]; · iexact HO
    isplitl [Hf]; · iexact Hf
    isplitl [Hbx]
    · iapply (Entails.of_eq (show someBuf c cc0_scratch4 = (ringRd X).payload ((px c : Thread nD τ), SemLoc.reg barS) 0 false
        from (pay_px X c).symm)) $$ Hbx
    iexact HrX
  iintro HO
  iapply (Rounds.wp_signal 𝒱₀ ER (ringRd X) (c : Thread nD τ) none (dst := (py c : Thread nD τ)) (κ := K (py c, none))
      (d := true) (mem_duty_bar X (py c) true) (amount_cell X (py c) none true) () (owedX c chunks) rfl) $$ [HO Ht Hby]
  · isplitr; · iexact HIY
    isplitl [HO]; · iexact HO
    isplitl [Ht]; · iexact Ht
    isplitl [Hby]
    · iapply (Entails.of_eq (show someBuf c cc0_scratch5 = (ringRd X).payload ((py c : Thread nD τ), SemLoc.reg barS) 0 true
        from (pay_py X c).symm)) $$ Hby
    iexact HrY
  iintro HO
  iapply (Rounds.wp_wait_rest_token 𝒱₀ ER (ringRd X) (c : Thread nD τ) none (κ := K (c, none))
      (wpE_semWait_eq 𝒱₀ (c : Thread nD τ) none Set.univ) (Set.mem_univ _) () (O := owedX c chunks) (W := W) (R := 0) (m := 0) (T := ∅)
      (by rw [Nat.zero_add]; exact (expect_bar X c).symm)) $$ [Hc HO Hat]
  · isplitr; · iexact HIC
    isplitl [Hc]; · iexact Hc
    isplitl [HO]; · iexact HO
    isplitr; · iapply (mayWait (above_owedX c chunks) c (.reg barS) (lv_cell c none ()).le); iexact Hlev
    iexact Hat
  iintro ⟨HO, Hat, -, Hp⟩
  ihave Hp := (Entails.of_eq (show bigSep ((ringRd X).duties ((c : Thread nD τ), SemLoc.reg barS) 0 \ ∅)
    (fun d => (ringRd X).payload ((c : Thread nD τ), SemLoc.reg barS) 0 d)
      = iprop(someBuf (px c) cc0_scratch4 ∗ someBuf (py c) cc0_scratch5) from rest_bar X c)) $$ Hp
  icases Hp with ⟨⟨%f, Hx⟩, ⟨%g, Hy⟩⟩
  imod (Rounds.cell_close ER (ringRd X) (Set.mem_univ (K (c, none))) (fun h => h) (R := 0 + 1) (duties_later X (barC c))) $$ [Hat] with Hz
  · isplitr; · iexact HIC
    iexact Hat
  iapply Hk
  isplitl [Hx]
  · iapply ((Entails.of_eq (recvx_pieces (px c) f)).trans (free_pieces (px c) (fun i => recvxRows i) fun _ => f)) $$ Hx
  isplitl [Hy]
  · iapply ((Entails.of_eq (recvy_pieces (py c) g)).trans (free_pieces (py c) (fun i => recvyRows i) fun _ => g)) $$ Hy
  isplitl [Hz]; · iexact Hz
  iexists _; iexact HO

/-! ## The device's own half -/

/-- All of a buffer, as the elements of its whole view. -/
theorem pts_whole (b : Ref sig .tc) (q : PosShare TreeShare) (f : Buf (Elt F) ((c : Thread nD τ).loc b)) :
    (pts c (Memref.whole b) q f : sProp 𝕄) = ((c : Thread nD τ).loc b ↦{q} f) := by
  unfold pts; rw [show (Memref.whole b).view.set = _ from View.set_whole b]

/-- A device's own half is not empty. -/
theorem numel_own : 0 < S2048x512.numel := by decide
/-- Nor is the quarter that is copied in directly. -/
theorem numel_rest : 0 < S1024x512.numel := by decide

/-- The buffer the device's own half is gathered in, after the two stores. -/
abbrev gathered (f : (cc0_scratch2 : Ref sig .tc).ty.Contents (Elt F)) : (cc0_scratch2 : Ref sig .tc).ty.Contents (Elt F) :=
  ((Memref.whole cc0_scratch2).access (ownRectA c)).write (Elt F) f
    (((Memref.whole cc0_scratch2).access (ownRectA c)).read (Elt F) (own X c)) Finset.univ

/-- The device's own half: two stores gather it in bfloat16, and its copy into the result is on its way. -/
theorem own_step (k : P F) (Q : PUnit → sProp 𝕄) :
    iprop(known X K ∗ ((c : Thread nD τ).loc cc0_scratch0 ↦{fullShare} stage X c)
        ∗ flying c localS (xRest c) (Memref.whole cc0_scratch1) fullShare (X c) (rest X c)
        ∗ someBuf c cc0_scratch2 ∗ free c (outOwn c) ∗ sem0 c ownS ∗ owing c (owedX c []))
      ⊢ iprop(((((c : Thread nD τ).loc cc0_scratch0 ↦{fullShare} stage X c)
            ∗ ((c : Thread nD τ).loc cc0_scratch1 ↦{fullShare} rest X c) ∗ pts c (xRest c) fullShare (X c) ∗ sem0 c localS
            ∗ flying c ownS (Memref.whole cc0_scratch2) (outOwn c) fullShare (own X c) (out X c) ∗ owing c (owedX c []))
          -∗ runs c k Q) -∗ runs c (ownPart c k) Q) := by
  unfold ownPart
  iintro ⟨⟨#HR, #Hlev⟩, Hst, HF, ⟨%f, Hown⟩, ⟨%g, Ho⟩, Hv, HO⟩ Hk
  iapply (wp_load 𝒱₀ (c : Thread nD τ) none Set.univ (m := Memref.whole cc0_scratch0) (Finset.subset_univ _)) $$ Hst; iintro Hst
  iapply (wp_load 𝒱₀ (c : Thread nD τ) none Set.univ (m := Memref.whole cc0_scratch2) (Finset.subset_univ _)) $$ Hown; iintro Hown
  rw [conv_ownA]
  iapply (wp_store 𝒱₀ (c : Thread nD τ) none Set.univ (m := Memref.whole cc0_scratch2) (r := ownRectA c) (Mk := Finset.univ)
    (Finset.subset_univ _)) $$ Hown
  iintro Hown
  iapply (copied c (xRest c) (Memref.whole cc0_scratch1) localS _ 1 (owedX c []) (above_owedX c []) (by decide)) $$ [HF HO]
  · isplitr; · iexact Hlev
    isplitl [HF] <;> iassumption
  iintro ⟨⟨Hre, Hx⟩, Hvl, HO⟩
  ihave Hre := (Entails.of_eq (pts_whole c cc0_scratch1 fullShare (rest X c))) $$ Hre
  iapply (wp_load 𝒱₀ (c : Thread nD τ) none Set.univ (m := Memref.whole cc0_scratch1) (Finset.subset_univ _)) $$ Hre; iintro Hre
  iapply (wp_load 𝒱₀ (c : Thread nD τ) none Set.univ (m := Memref.whole cc0_scratch2) (Finset.subset_univ _)) $$ Hown; iintro Hown
  rw [conv_ownB]
  iapply (wp_store 𝒱₀ (c : Thread nD τ) none Set.univ (m := Memref.whole cc0_scratch2) (r := ownRectB c) (Mk := Finset.univ)
    (Finset.subset_univ _)) $$ Hown
  iintro Hown
  rw [write_own]
  ihave Hown := (Entails.of_eq (pts_whole c cc0_scratch2 fullShare (own X c)).symm) $$ Hown
  iapply (copy c (Memref.whole cc0_scratch2) (outOwn c) ownS fullShare (own X c) g (out X c) (read_own X c) numel_own) $$ [Hown Ho Hv]
  · isplitl [Hown]; · iexact Hown
    isplitl [Ho] <;> iassumption
  iintro HF
  iapply Hk
  isplitl [Hst]; · iexact Hst
  isplitl [Hre]; · iexact Hre
  isplitl [Hx]; · iexact Hx
  isplitl [Hvl]; · iexact Hvl
  isplitl [HF] <;> iassumption

/-! ## The loops' resources, resource by resource -/

/-- One resource for each chunk. -/
abbrev all (Φ : Fin 16 → sProp 𝕄) : sProp 𝕄 := bigSep Finset.univ Φ

/-- What the first loop takes, for all chunks. -/
theorem stagePre_all : all (stagePre X c)
    = iprop(all (fun i => pts c (xRows c i) fullShare (X c)) ∗ all (fun i => free c (stageRows i)) ∗ all (fun i => sem0 c (inS i))) := by
  show bigSep Finset.univ (fun i => stagePre X c i) = _
  unfold stagePre; rw [bigSep_sep', bigSep_sep']

/-- What the sending loop takes, for all chunks. -/
theorem sendPre_all : all (sendPre X c)
    = iprop(all (stagePost X c) ∗ all (fun i => free c (sendRows i)) ∗ all (fun i => free (px c) (recvxRows i))
        ∗ all (fun i => tok 0 c i) ∗ all (fun i => tok 1 (px c) i)) := by
  show bigSep Finset.univ (fun i => sendPre X c i) = _
  unfold sendPre; rw [bigSep_sep', bigSep_sep', bigSep_sep', bigSep_sep']

/-- What the sending loop leaves, for all chunks. -/
theorem sendPost_all : all (sendPost X c)
    = iprop(all (fun i => pts c (stageRows i) fullShare (stage X c)) ∗ all (fun i => pts c (xRows c i) fullShare (X c))
        ∗ all (fun i => sem0 c (inS i)) ∗ all (fun i => due 0 c i)) := by
  show bigSep Finset.univ (fun i => sendPost X c i) = _
  unfold sendPost; rw [bigSep_sep', bigSep_sep', bigSep_sep']

/-- What the forwarding loop takes, for all chunks. -/
theorem forwardPre_all : (all (forwardPre c) : sProp 𝕄)
    = iprop((all (fun i => pos 1 c i) ∗ all (fun i => due 1 c i)) ∗ all (fun i => free (py c) (recvyRows i))
        ∗ (all (fun i => tok 2 c i) ∗ all (fun i => tok 3 (py c) i)) ∗ all (fun i => free c (outX c i)) ∗ all (fun i => sem0 c (outXS i))) := by
  show bigSep Finset.univ (fun i => forwardPre c i) = _
  unfold forwardPre; rw [bigSep_sep', bigSep_sep', bigSep_sep', bigSep_sep', bigSep_sep', bigSep_sep']

/-- What the forwarding loop leaves, for all chunks. -/
theorem forwardPost_all : all (forwardPost X c)
    = iprop(all (fun i => sem0 c (xRecvS i)) ∗ all (fun i => due 2 c i)
        ∗ all (fun i => flying c (outXS i) (recvxRows i) (outX c i) fullShare.right (recvx X c) (out X c))) := by
  show bigSep Finset.univ (fun i => forwardPost X c i) = _
  unfold forwardPost; rw [bigSep_sep', bigSep_sep']

/-- What the loop over the forwarded chunks takes, for all chunks. -/
theorem lastPre_all : (all (lastPre c) : sProp 𝕄)
    = iprop((all (fun i => pos 3 c i) ∗ all (fun i => due 3 c i)) ∗ all (fun i => free c (outY c i)) ∗ all (fun i => sem0 c (outYS i))) := by
  show bigSep Finset.univ (fun i => lastPre c i) = _
  unfold lastPre; rw [bigSep_sep', bigSep_sep', bigSep_sep']

/-- What that loop leaves, for all chunks. -/
theorem lastPost_all : all (lastPost X c)
    = iprop(all (fun i => sem0 c (yRecvS i))
        ∗ all (fun i => flying c (outYS i) (recvyRows i) (outY c i) fullShare (recvy X c) (out X c))) := by
  show bigSep Finset.univ (fun i => lastPost X c i) = _
  unfold lastPost; rw [bigSep_sep']

/-- What the loop of the last waits takes, for all chunks. -/
theorem drainPre_all : all (drainPre X c)
    = iprop(all (fun i => flying c (outXS i) (recvxRows i) (outX c i) fullShare.right (recvx X c) (out X c))
        ∗ all (fun i => flying c (outYS i) (recvyRows i) (outY c i) fullShare (recvy X c) (out X c))
        ∗ (all (fun i => pos 0 c i) ∗ all (fun i => due 0 c i)) ∗ (all (fun i => pos 2 c i) ∗ all (fun i => due 2 c i))) := by
  show bigSep Finset.univ (fun i => drainPre X c i) = _
  unfold drainPre; rw [bigSep_sep', bigSep_sep', bigSep_sep', bigSep_sep', bigSep_sep']

/-- What that loop leaves, for all chunks. -/
theorem drainPost_all : all (drainPost X c)
    = iprop((all (fun i => pts c (outX c i) fullShare (out X c)) ∗ all (fun i => sem0 c (outXS i)))
        ∗ (all (fun i => pts c (outY c i) fullShare (out X c)) ∗ all (fun i => sem0 c (outYS i)))
        ∗ (all (fun i => pts c (sendRows i) fullShare (send X c)) ∗ all (fun i => sem0 c (xSendS i)))
        ∗ (all (fun i => pts c (recvxRows i) fullShare (recvx X c)) ∗ all (fun i => sem0 c (ySendS i)))
        ∗ all (fun i => pts c (recvyRows i) fullShare (recvy X c))) := by
  show bigSep Finset.univ (fun i => drainPost X c i) = _
  unfold drainPost
  rw [bigSep_sep', bigSep_sep', bigSep_sep', bigSep_sep', bigSep_sep', bigSep_sep', bigSep_sep', bigSep_sep']

/-! ## The whole body -/

/-- Where the device stands in its own cells: at their one round, with nothing taken. -/
def marks : sProp 𝕄 :=
  iprop(atPos ER (barC c) 0 ∅ 0 ∗ all (fun i => pos 0 c i) ∗ all (fun i => pos 1 c i) ∗ all (fun i => pos 2 c i) ∗ all (fun i => pos 3 c i))
/-- The duties the device pays: one unit to each neighbour's barrier, and its copies' two ends. -/
def tokens : sProp 𝕄 :=
  iprop((dutyTok ER (barC (px c)) 0 false ∗ dutyTok ER (barC (py c)) 0 true)
    ∗ all (fun i => tok 0 c i) ∗ all (fun i => tok 1 (px c) i) ∗ all (fun i => tok 2 c i) ∗ all (fun i => tok 3 (py c) i))
/-- What the neighbours owe the device. -/
def credits : sProp 𝕄 := iprop(cred (tallyAt (barC c) () 2) ∗ all (fun i => due 1 c i) ∗ all (fun i => due 3 c i))
/-- The counters of the device's copies within itself. -/
def localSems : sProp 𝕄 :=
  iprop(sem0 c localS ∗ sem0 c ownS ∗ all (fun i => sem0 c (inS i)) ∗ all (fun i => sem0 c (outXS i)) ∗ all (fun i => sem0 c (outYS i)))
/-- The counters of the copies between devices. -/
def xferSems : sProp 𝕄 :=
  iprop(all (fun i => sem0 c (xSendS i)) ∗ all (fun i => sem0 c (xRecvS i)) ∗ all (fun i => sem0 c (ySendS i)) ∗ all (fun i => sem0 c (yRecvS i)))
/-- The six working buffers. -/
def scratch : sProp 𝕄 :=
  iprop(someBuf c cc0_scratch0 ∗ someBuf c cc0_scratch1 ∗ someBuf c cc0_scratch2 ∗ someBuf c cc0_scratch3 ∗ someBuf c cc0_scratch4
    ∗ someBuf c cc0_scratch5)

/-- What the device holds at the end: its argument as it was, its result computed, every counter back at zero. -/
def finish : sProp 𝕄 :=
  iprop(((c : Thread nD τ).loc main_arg0 ↦{fullShare} X c) ∗ ((c : Thread nD τ).loc main_v1 ↦{fullShare} out X c)
    ∗ semVal (barC c) 0 ∗ localSems c ∗ xferSems c ∗ scratch c)

/-- The direct copy of a quarter of the argument brings what `rest` says. -/
theorem read_rest : (xRest c).view.read (Elt F) (X c) = (Memref.whole cc0_scratch1).view.read (Elt F) (rest X c) :=
  (read_xRest X c).trans (View.read_whole _ _).symm

set_option maxHeartbeats 1600000 in
/-- The whole body on one device: from its argument, its buffers and its part of the protocol to its result computed and
    nothing owed. -/
theorem sound_work (Q : PUnit → sProp 𝕄) :
    iprop(known X K ∗ marks c ∗ tokens c ∗ credits c ∗ localSems c ∗ scratch c ∗ ((c : Thread nD τ).loc main_arg0 ↦{fullShare} X c)
        ∗ someBuf c main_v1 ∗ owing c (owed0 c))
      ⊢ iprop(((finish X c ∗ owing c 0) -∗ Q ⟨⟩) -∗ runs c (work c) Q) := by
  unfold marks tokens credits localSems scratch work
  iintro ⟨#HK, ⟨HaB, Ha0, Ha1, Ha2, Ha3⟩, ⟨Hbar, Ht0, Ht1, Ht2, Ht3⟩, ⟨HcB, Hd1, Hd3⟩, ⟨HvL, HvO, HvI, HvX, HvY⟩,
    ⟨⟨%f0, Hs0⟩, ⟨%f1, Hs1⟩, ⟨%f2, Hs2⟩, ⟨%f3, Hs3⟩, Hs4, Hs5⟩, Hx, ⟨%g, Ho⟩, HO⟩ Hk
  ihave Hx := (x_pieces c (X c)).1 $$ Hx
  icases Hx with ⟨Hxs, Hxr, Hxu⟩
  ihave Ho := (out_pieces c g).1 $$ Ho
  icases Ho with ⟨HoO, HoX, HoY⟩
  ihave Hs0 := ((Entails.of_eq (stage_pieces c f0)).trans (free_pieces c (fun i => stageRows i) fun _ => f0)) $$ Hs0
  ihave Hs3 := ((Entails.of_eq (send_pieces c f3)).trans (free_pieces c (fun i => sendRows i) fun _ => f3)) $$ Hs3
  ihave HoX := (free_pieces c (fun i => outX c i) fun _ => g) $$ HoX
  ihave HoY := (free_pieces c (fun i => outY c i) fun _ => g) $$ HoY
  -- the argument's rows start on their way
  iapply (loop_all c (known X K) (stagePre X c) (stagePost X c) (fun _ => iprop(emp)) (stageStep c) Q (fun i l k => stage_step X K c i l k Q)) $$ [Hxs Hs0 HvI]
  · isplitr; · iexact HK
    isplitl
    · iapply (Entails.of_eq (stagePre_all X c).symm)
      isplitl [Hxs]; · iexact Hxs
      isplitl [Hs0] <;> iassumption
    iempintro
  iintro ⟨Hst, -⟩
  unfold localStart
  iapply (copy c (xRest c) (Memref.whole cc0_scratch1) localS fullShare (X c) f1 (rest X c) (read_rest X c) numel_rest) $$ [Hxr Hs1 HvL]
  · isplitl [Hxr]; · iexact Hxr
    isplitl [Hs1]
    · iapply (Entails.of_eq (pts_whole c cc0_scratch1 fullShare f1).symm) $$ Hs1
    iexact HvL
  iintro HL
  -- the handshake
  iapply (meet_step X K c) $$ [Hbar Hs4 Hs5 HaB HcB HO]
  · isplitr; · iexact HK
    isplitl [Hbar]; · iexact Hbar
    isplitl [Hs4 Hs5]
    · isplitl [Hs4] <;> iassumption
    isplitl [HaB HcB]
    · isplitl [HaB] <;> iassumption
    iexact HO
  iintro ⟨Hrx, Hry, HvB, HO⟩
  -- the rows sent across
  iapply (loop_all c (known X K) (sendPre X c) (sendPost X c) (fun l => owing c (owedX c l)) (sendStep c) Q (fun i l k => send_step X K c i l k Q)) $$ [Hst Hs3 Hrx Ht0 Ht1 HO]
  · isplitr; · iexact HK
    isplitl [Hst Hs3 Hrx Ht0 Ht1]
    · iapply (Entails.of_eq (sendPre_all X c).symm)
      isplitl [Hst]; · iexact Hst
      isplitl [Hs3]; · iexact Hs3
      isplitl [Hrx]; · iexact Hrx
      isplitl [Ht0] <;> iassumption
    iexact HO
  iintro ⟨Hp, HO⟩
  ihave Hp := (Entails.of_eq (sendPost_all X c)) $$ Hp
  icases Hp with ⟨Hs0, Hxs, HvI, Hd0⟩
  ihave Hs0 := (Entails.of_eq (stage_pieces c (stage X c)).symm) $$ Hs0
  -- the device's own half
  iapply (own_step X K c) $$ [Hs0 HL Hs2 HoO HvO HO]
  · isplitr; · iexact HK
    isplitl [Hs0]; · iexact Hs0
    isplitl [HL]; · iexact HL
    isplitl [Hs2]; · iexists f2; iexact Hs2
    isplitl [HoO]; · iexists g; iexact HoO
    isplitl [HvO] <;> iassumption
  iintro ⟨Hs0, Hs1, Hxr, HvL, HoO, HO⟩
  -- the rows that arrive, sent on
  iapply (loop_all c (known X K) (forwardPre c) (forwardPost X c) (fun l => owing c (owedY c l)) (forwardStep c) Q (fun i l k => forward_step X K c i l k Q)) $$ [Ha1 Hd1 Hry Ht2 Ht3 HoX HvX HO]
  · isplitr; · iexact HK
    isplitl [Ha1 Hd1 Hry Ht2 Ht3 HoX HvX]
    · iapply (Entails.of_eq (forwardPre_all c).symm)
      isplitl [Ha1 Hd1]
      · isplitl [Ha1] <;> iassumption
      isplitl [Hry]; · iexact Hry
      isplitl [Ht2 Ht3]
      · isplitl [Ht2] <;> iassumption
      isplitl [HoX] <;> iassumption
    iexact HO
  iintro ⟨Hp, HO⟩
  ihave Hp := (Entails.of_eq (forwardPost_all X c)) $$ Hp
  icases Hp with ⟨HvR, Hd2, HFX⟩
  -- the rows that arrive last
  iapply (loop_all c (known X K) (lastPre c) (lastPost X c) (fun _ => owing c 0) (lastStep c) Q (fun i l k => last_step X K c i l k Q)) $$ [Ha3 Hd3 HoY HvY HO]
  · isplitr; · iexact HK
    isplitl [Ha3 Hd3 HoY HvY]
    · iapply (Entails.of_eq (lastPre_all c).symm)
      isplitl [Ha3 Hd3]
      · isplitl [Ha3] <;> iassumption
      isplitl [HoY] <;> iassumption
    iexact HO
  iintro ⟨Hp, HO⟩
  ihave Hp := (Entails.of_eq (lastPost_all X c)) $$ Hp
  icases Hp with ⟨HvS, HFY⟩
  -- the copies out and the copies across are waited for
  unfold ownWait
  iapply (copied c (Memref.whole cc0_scratch2) (outOwn c) ownS _ 0 0 (Above.zero 0) (by decide)) $$ [HoO HO]
  · isplitr; · icases HK with ⟨-, #Hlev⟩; iexact Hlev
    isplitl [HoO] <;> iassumption
  iintro ⟨⟨HoO, Hs2⟩, HvO, HO⟩
  ihave Hs2 := (Entails.of_eq (pts_whole c cc0_scratch2 fullShare (own X c))) $$ Hs2
  iapply (loop_all c (known X K) (drainPre X c) (drainPost X c) (fun _ => owing c 0) (drainStep c) Q (fun i l k => drain_step X K c i l k Q)) $$ [HFX HFY Ha0 Hd0 Ha2 Hd2 HO]
  · isplitr; · iexact HK
    isplitl [HFX HFY Ha0 Hd0 Ha2 Hd2]
    · iapply (Entails.of_eq (drainPre_all X c).symm)
      isplitl [HFX]; · iexact HFX
      isplitl [HFY]; · iexact HFY
      isplitl [Ha0 Hd0]
      · isplitl [Ha0] <;> iassumption
      isplitl [Ha2] <;> iassumption
    iexact HO
  iintro ⟨Hp, HO⟩
  ihave Hp := (Entails.of_eq (drainPost_all X c)) $$ Hp
  icases Hp with ⟨⟨HoX, HvX⟩, ⟨HoY, HvY⟩, ⟨Hs3, HvA⟩, ⟨Hs4, HvC⟩, Hs5⟩
  ihave Hs3 := (Entails.of_eq (send_pieces c (send X c)).symm) $$ Hs3
  ihave Hs4 := (Entails.of_eq (recvx_pieces c (recvx X c)).symm) $$ Hs4
  ihave Hs5 := (Entails.of_eq (recvy_pieces c (recvy X c)).symm) $$ Hs5
  unfold runs
  rw [wp_ret]; imodintro
  iapply Hk
  unfold finish localSems xferSems scratch
  isplitr [HO]
  · isplitl [Hxs Hxr Hxu]
    · iapply (x_pieces c (X c)).2
      isplitl [Hxs]; · iexact Hxs
      isplitl [Hxr] <;> iassumption
    isplitl [HoO HoX HoY]
    · iapply (out_pieces c (out X c)).2
      isplitl [HoO]; · iexact HoO
      isplitl [HoX] <;> iassumption
    isplitl [HvB]; · iexact HvB
    isplitl [HvL HvO HvI HvX HvY]
    · isplitl [HvL]; · iexact HvL
      isplitl [HvO]; · iexact HvO
      isplitl [HvI]; · iexact HvI
      isplitl [HvX] <;> iassumption
    isplitl [HvA HvR HvC HvS]
    · isplitl [HvA]; · iexact HvA
      isplitl [HvR]; · iexact HvR
      isplitl [HvC] <;> iassumption
    isplitl [Hs0]; · iexists _; iexact Hs0
    isplitl [Hs1]; · iexists _; iexact Hs1
    isplitl [Hs2]; · iexists _; iexact Hs2
    isplitl [Hs3]; · iexists _; iexact Hs3
    isplitl [Hs4]; · iexists _; iexact Hs4
    iexists _; iexact Hs5
  iexact HO

end Cert.KernelIdeal.Loop

end

end
-- ==== Proof.Fund.lean ====
module

public import proofs.«01_k».proof.Proof.Body
public import proofs.«01_k».proof.Proof.Gen.KernelIdeal.Launch

/-! # What the launch deals out

The kernel's own semaphores by family; the protocol's cells allocated over all devices at once, their records, marks
and tokens dealt to the devices that use them; and the credit each device starts with, which is what its neighbours
owe it. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

attribute [local instance] Cert.KernelIdeal.Gen.facts

local notation "𝕄" => MT nD τ sig Unit (Elt F) ℕ UU ℕ

variable (X : Dev nD → Arg F)

/-! ## Enumerations -/

/-- Something for every cell: for the barrier's, and for the four families'. -/
theorem bigSep_cells (Φ : Cell → sProp 𝕄) : bigSep Finset.univ Φ
    = iprop(Φ none ∗ all (fun i => Φ (some (0, i))) ∗ all (fun i => Φ (some (1, i))) ∗ all (fun i => Φ (some (2, i)))
        ∗ all (fun i => Φ (some (3, i)))) := by
  rw [bigSep_univ_split none, show (Finset.univ.erase none : Finset Cell) = Finset.univ.map Function.Embedding.some by decide,
    bigSep_map, bigSep_univ_prod, bigSep_univ_eq_bigSepL [0, 1, 2, 3] (by decide) (by decide)]
  rfl

/-- The names of the kernel's own semaphores: those of the copies between devices, the two single ones, and the
    families of the copies within a device. -/
abbrev Own : Type := (Fin 4 × Fin 16) ⊕ (Bool ⊕ (Fin 3 × Fin 16))

/-- The semaphore of a name. -/
def ownSem : Own → DmaSem sig
  | .inl (k, i) => xferS k i
  | .inr (.inl false) => localS
  | .inr (.inl true) => ownS
  | .inr (.inr (0, i)) => inS i
  | .inr (.inr (1, i)) => outXS i
  | .inr (.inr (2, i)) => outYS i

/-- The same as a semaphore of either sort. -/
def osem (o : Own) : SemLoc sig := .dma (ownSem o)

/-- The numbers of the semaphores. -/
theorem ownSem_val (o : Own) : (ownSem o).val = match o with
    | .inl (k, i) => 50 + 16 * k.val + i.val
    | .inr (.inl false) => 16
    | .inr (.inl true) => 17
    | .inr (.inr (0, i)) => i.val
    | .inr (.inr (1, i)) => 18 + i.val
    | .inr (.inr (2, i)) => 34 + i.val := by
  revert o; decide +kernel

/-- No two names are of one semaphore. -/
theorem ownSem_injective : Function.Injective ownSem := by decide +kernel

/-- The semaphores of the call, listed once each. -/
theorem ownSemFacts : Pipeline.OwnSemFacts cfg0.spec osem where
  isScoped o := by
    unfold osem; generalize ownSem o = s; revert s; decide +kernel
  inj a b h := ownSem_injective (SemLoc.dma.inj h)
  disj _ w := w.elim0

/-- The kernel's own semaphores at zero, by family. -/
theorem ownSems_eq (c : Dev nD) :
    (Pipeline.ownSems0 (Ix := Unit) (Name := ℕ) (U := UU) (Lvl := ℕ) (Val := Elt F) (τ := τ) osem c : sProp 𝕄)
      = iprop(xferSems c ∗ localSems c) := by
  have hx : bigSep Finset.univ (fun p : Fin 4 × Fin 16 => (semVal ((c : Thread nD τ), osem (.inl p)) 0 : sProp 𝕄)) = xferSems c := by
    rw [bigSep_univ_prod, bigSep_univ_eq_bigSepL [0, 1, 2, 3] (by decide) (by decide)]; rfl
  have hl : bigSep Finset.univ (fun p : Bool ⊕ Fin 3 × Fin 16 => (semVal ((c : Thread nD τ), osem (.inr p)) 0 : sProp 𝕄)) = localSems c := by
    rw [bigSep_univ_sum, bigSep_univ_prod, bigSep_univ_eq_bigSepL [false, true] (by decide) (by decide),
      bigSep_univ_eq_bigSepL [0, 1, 2] (by decide) (by decide)]
    unfold localSems
    show iprop((sem0 c localS ∗ sem0 c ownS) ∗ all (fun i => sem0 c (inS i)) ∗ all (fun i => sem0 c (outXS i)) ∗ all (fun i => sem0 c (outYS i))) = _
    exact BI.Entails.antisymm (show (_ : sProp 𝕄) ⊢ _ from sep_assoc.1) (show (_ : sProp 𝕄) ⊢ _ from sep_assoc.2)
  unfold Pipeline.ownSems0
  rw [bigSep_univ_sum, hx, hl]; rfl

/-- The one semaphore that outlives the kernel is the barrier's. -/
theorem unscopedSems_eq (c : Dev nD) : (unscopedSems0 c : sProp 𝕄) = semVal (barC c) 0 := by
  unfold unscopedSems0; rw [bigSep_eq_bigSepL_of_eq [SemLoc.reg barS] (by decide +kernel) (by decide)]; rfl

/-- Every cell's semaphore at zero. -/
theorem cellSems (c : Dev nD) :
    iprop(xferSems c ∗ semVal (barC c) 0) ⊢ (bigSep Finset.univ fun q : Cell => semVal (cell c q) 0 : sProp 𝕄) := by
  rw [bigSep_cells]
  unfold xferSems
  iintro ⟨H, Hb⟩
  isplitl [Hb]; · iexact Hb
  iexact H

/-! ## The launch's ghost state -/

/-- Different cells are different semaphores. -/
theorem cell_pair_injective : Function.Injective (fun p : Dev nD × Cell => cell p.1 p.2) := by
  rintro ⟨c, q⟩ ⟨c', q'⟩ h
  obtain ⟨h1, h2⟩ := cell_injective h
  exact Prod.ext h1 h2
/-- The protocol's cells. -/
def cellsAll : Finset (GSem nD τ sig) := Finset.univ.map ⟨_, cell_pair_injective⟩

/-- A token for either duty of every cell's round. -/
def tokAt (p : Dev nD × Cell × Bool) : GSem nD τ sig × ℕ × Bool := (cell p.1 p.2.1, 0, p.2.2)
/-- Different tokens are of different duties. -/
theorem tokAt_injective : Function.Injective tokAt := by
  rintro ⟨c, q, b⟩ ⟨c', q', b'⟩ h
  obtain ⟨h1, h2⟩ := cell_injective (Prod.mk.inj h).1
  exact Prod.ext h1 (Prod.ext h2 (Prod.mk.inj (Prod.mk.inj h).2).2)
/-- All tokens. -/
def toksAll : Finset (GSem nD τ sig × ℕ × Bool) := Finset.univ.map ⟨tokAt, tokAt_injective⟩

/-- What the launch puts in place. -/
def u₀ : UU := (initOf (Pipeline.cells cfgs cellOf_inj) (Pipeline.launchToks cfgs cellOf_inj), (initOf cellsAll toksAll, 1))

/-- The launch's ghost state is the library's and the protocol's. -/
theorem ownU_split (a : UR sig nD τ) (b : UB) : (ownU ((a, (b, 1)) : UU) : sProp 𝕄) ⊢ iprop(BI.own (EP a) ∗ BI.own (ER b)) :=
  BI.own_op_elim ((uEmb (nD := nD) (sig := sig) (Ix := Unit) (Val := Elt F) (Name := ℕ) (U := UU) (Lvl := ℕ)).toEmb.op_of_mem
    (Prod.mk_mem_op (URA.mem_op_one a) (URA.mem_one_op (b, (1 : Counters)))))

/-- The tokens of a device's own cells. -/
def toks (c : Dev nD) : sProp 𝕄 :=
  iprop((bigSep Finset.univ fun q : Cell => dutyTok ER (cell c q) 0 false) ∗ bigSep Finset.univ fun q : Cell => dutyTok ER (cell c q) 0 true)

/-- What the launch deals a device before the cells are allocated. -/
def G (c : Dev nD) : sProp 𝕄 :=
  iprop((bigSep Finset.univ fun q : Cell => roundState ER (ringRd X) (cell c q) 0)
    ∗ (bigSep Finset.univ fun q : Cell => reached ER (cell c q) 0) ∗ (bigSep Finset.univ fun q : Cell => atPos ER (cell c q) 0 ∅ 0) ∗ toks c)

/-- What a device starts the kernel with, of the protocol and of semaphores. -/
def G' (c : Dev nD) : sProp 𝕄 := iprop((∃ K, records X K) ∗ marks c ∗ tokens c ∗ localSems c)

/-- The protocol's ghost state gives each device its cells' positions and tokens. -/
theorem fund_cells : BI.own (ER (initOf cellsAll toksAll)) ⊢ (|==> bigSep Finset.univ (G X) : sProp 𝕄) := by
  have hc (Φ : GSem nD τ sig → sProp 𝕄) : bigSep cellsAll Φ = bigSep Finset.univ fun c : Dev nD => bigSep Finset.univ fun q : Cell => Φ (cell c q) := by
    unfold cellsAll; rw [bigSep_map, bigSep_univ_prod]; rfl
  have ht : bigSep toksAll (fun x => (dutyTok ER x.1 x.2.1 x.2.2 : sProp 𝕄)) = bigSep Finset.univ fun c : Dev nD => toks c := by
    unfold toksAll; rw [bigSep_map, bigSep_univ_prod]
    refine bigSep_congr fun c _ => ?_
    unfold toks
    rw [bigSep_univ_prod, ← bigSep_sep']
    refine bigSep_congr fun q _ => ?_
    rw [bigSep_univ_eq_bigSepL [false, true] (by decide) (by decide)]; rfl
  iintro H
  imod (Rounds.fund ER (ringRd X) cellsAll toksAll) $$ H with ⟨Hst, Hr, Hat, Htok⟩
  imodintro
  ihave Hst := (Entails.of_eq (hc fun g => roundState ER (ringRd X) g 0)) $$ Hst
  ihave Hr := (Entails.of_eq (hc fun g => reached ER g 0)) $$ Hr
  ihave Hat := (Entails.of_eq (hc fun g => atPos ER g 0 ∅ 0)) $$ Hat
  ihave Htok := (Entails.of_eq ht) $$ Htok
  unfold G; simp only [bigSep_sep']
  isplitl [Hst]; · iexact Hst
  isplitl [Hr]; · iexact Hr
  isplitl [Hat]; · iexact Hat
  iexact Htok

/-- One device's cells become invariants. -/
theorem core_alloc (c : Dev nD) :
    iprop(Pipeline.ownSems0 (Ix := Unit) (Name := ℕ) (U := UU) (Lvl := ℕ) (Val := Elt F) (τ := τ) osem c ∗ unscopedSems0 c ∗ G X c)
      ⊢ |={Set.univ}=> iprop((bigSep Finset.univ fun q : Cell => iprop((∃ κ : ℕ, cellInv ER (ringRd X) κ (cell c q)) ∗ reached ER (cell c q) 0))
          ∗ (bigSep Finset.univ fun q : Cell => atPos ER (cell c q) 0 ∅ 0) ∗ toks c ∗ localSems c) := by
  unfold G
  rw [ownSems_eq, unscopedSems_eq]
  iintro ⟨⟨Hx, Hl⟩, Hb, Hst, Hr, Hat, Htok⟩
  ihave Hv := (cellSems (F := F) c) $$ [Hx Hb]
  · isplitl [Hx] <;> iassumption
  imod (show iprop((bigSep Finset.univ fun q : Cell => semVal (cell c q) 0) ∗ bigSep Finset.univ fun q : Cell => roundState ER (ringRd X) (cell c q) 0)
      ⊢ (|={Set.univ}=> bigSep Finset.univ fun q : Cell => iprop(∃ κ : ℕ, cellInv ER (ringRd X) κ (cell c q)) : sProp 𝕄) from by
        rw [← bigSep_sep']
        exact (bigSep_mono fun q _ => (Rounds.body_intro ER (ringRd X) (cell c q)).trans inv_alloc).trans (bigSep_fupd _ _)) $$ [Hv Hst] with Hinv
  · isplitl [Hv] <;> iassumption
  imodintro
  isplitl [Hinv Hr]
  · iapply (Entails.of_eq (bigSep_sep' Finset.univ (fun q : Cell => iprop(∃ κ : ℕ, cellInv ER (ringRd X) κ (cell c q))) fun q => (reached ER (cell c q) 0 : sProp 𝕄)).symm)
    isplitl [Hinv] <;> iassumption
  isplitl [Hat]; · iexact Hat
  isplitl [Htok] <;> iassumption

/-! ## Dealing the tokens -/

/-- The x-neighbours, paired. -/
def pxE : Dev nD ≃ Dev nD := ⟨px, px, px_px, px_px⟩
/-- The y-neighbours, paired. -/
def pyE : Dev nD ≃ Dev nD := ⟨py, py, py_py, py_py⟩

/-- Over all devices is over all x-neighbours. -/
theorem over_px (Φ : Dev nD → sProp 𝕄) : bigSep Finset.univ Φ = bigSep Finset.univ fun c => Φ (px c) := bigSep_univ_equiv pxE Φ
/-- And over all y-neighbours. -/
theorem over_py (Φ : Dev nD → sProp 𝕄) : bigSep Finset.univ Φ = bigSep Finset.univ fun c => Φ (py c) := bigSep_univ_equiv pyE Φ

/-- Each device gets the tokens of the duties it pays: its own send cells', and its neighbours' barriers' and receive
    cells'. -/
theorem deal : (bigSep Finset.univ fun c : Dev nD => (toks c : sProp 𝕄)) ⊢ bigSep Finset.univ fun c : Dev nD => tokens c := by
  unfold toks tokens
  simp only [bigSep_cells, bigSep_sep']
  rw [over_px (fun c => dutyTok ER (cell c none) 0 false), over_py (fun c => dutyTok ER (cell c none) 0 true),
    over_px (fun c => all fun i => dutyTok ER (cell c (some (1, i))) 0 false), over_py (fun c => all fun i => dutyTok ER (cell c (some (3, i))) 0 false)]
  iintro ⟨⟨Hb, H0, H1, H2, H3⟩, Hb', -⟩
  isplitl [Hb Hb']
  · isplitl [Hb] <;> iassumption
  isplitl [H0]; · iexact H0
  isplitl [H1]; · iexact H1
  isplitl [H2] <;> iassumption

/-- A device's marks. -/
theorem marks_eq (c : Dev nD) : (bigSep Finset.univ fun q : Cell => (atPos ER (cell c q) 0 ∅ 0 : sProp 𝕄)) = marks c := by
  rw [bigSep_cells]; rfl

/-- The records of all cells, once every cell is an invariant, are known to every device. -/
theorem regroup :
    (bigSep Finset.univ fun c : Dev nD =>
        iprop((bigSep Finset.univ fun q : Cell => iprop((∃ κ : ℕ, cellInv ER (ringRd X) κ (cell c q)) ∗ reached ER (cell c q) 0))
          ∗ (bigSep Finset.univ fun q : Cell => atPos ER (cell c q) 0 ∅ 0) ∗ toks c ∗ localSems c) : sProp 𝕄)
      ⊢ bigSep Finset.univ (G' X) := by
  have he (p : Dev nD × Cell) : (iprop((∃ κ : ℕ, cellInv ER (ringRd X) κ (cell p.1 p.2)) ∗ reached ER (cell p.1 p.2) 0) : sProp 𝕄)
      ⊢ iprop(∃ κ : ℕ, cellInv ER (ringRd X) κ (cell p.1 p.2) ∗ reached ER (cell p.1 p.2) 0) := by
    iintro ⟨⟨%κ, Hi⟩, Hr⟩
    iexists κ; isplitl [Hi] <;> iassumption
  rw [bigSep_sep', bigSep_sep', bigSep_sep',
    ← bigSep_univ_prod (fun p : Dev nD × Cell => iprop((∃ κ : ℕ, cellInv ER (ringRd X) κ (cell p.1 p.2)) ∗ reached ER (cell p.1 p.2) 0)),
    bigSep_congr (s := Finset.univ) fun (c : Dev nD) _ => marks_eq c]
  iintro ⟨HI, Hm, Ht, Hl⟩
  ihave HI := (show bigSep Finset.univ (fun p : Dev nD × Cell => iprop((∃ κ : ℕ, cellInv ER (ringRd X) κ (cell p.1 p.2)) ∗ reached ER (cell p.1 p.2) 0))
      ⊢ bigSep Finset.univ (fun p : Dev nD × Cell => iprop(∃ κ : ℕ, cellInv ER (ringRd X) κ (cell p.1 p.2) ∗ reached ER (cell p.1 p.2) 0))
    from bigSep_mono fun p _ => he p) $$ HI
  ihave HI := (BI.bigSep_exists_pi Finset.univ (fun (p : Dev nD × Cell) (κ : ℕ) =>
    iprop(cellInv ER (ringRd X) κ (cell p.1 p.2) ∗ reached ER (cell p.1 p.2) 0))) $$ HI
  icases HI with ⟨%K, HI⟩
  ihave #HR := (Entails.of_eq (show bigSep Finset.univ (fun p : Dev nD × Cell =>
    iprop(cellInv ER (ringRd X) (K p) (cell p.1 p.2) ∗ reached ER (cell p.1 p.2) 0)) = records X K from rfl)) $$ HI
  ihave Ht := (deal (F := F)) $$ Ht
  unfold G'; simp only [bigSep_sep']
  isplitr
  · iapply ((BI.bigSep_of_persistent (Finset.univ : Finset (Dev nD)) (records X K)).trans
      (bigSep_mono fun _ _ => (show records X K ⊢ iprop(∃ K, records X K) from by iintro #H; iexists K; iexact H)))
    iexact HR
  isplitl [Hm]; · iexact Hm
  isplitl [Ht] <;> iassumption

/-- From every device's semaphores at zero and what the launch dealt, to what every device starts with. -/
theorem glob : (bigSep Finset.univ fun c => iprop(Pipeline.ownSems0 (Ix := Unit) (Name := ℕ) (U := UU) (Lvl := ℕ) (Val := Elt F) (τ := τ) osem c
      ∗ unscopedSems0 c ∗ G X c) : sProp 𝕄)
    ⊢ |={Set.univ}=> bigSep Finset.univ (G' X) :=
  ((bigSep_mono fun c _ => core_alloc X c).trans (bigSep_fupd _ _)).trans (BI.fupd_mono (regroup X))

/-! ## The credit at the start -/

/-- What the paired devices owe a cell of theirs is what a device has of it. -/
theorem cred_one (σ : Dev nD → Dev nD) (hσ : ∀ c, σ (σ c) = c) (q : Cell) (n : ℕ) (c : Dev nD) :
    (Pipeline.launchCred (fun d => tallyAt (cell (σ d) q) () n) c : sProp 𝕄) ⊢ cred (tallyAt (cell c q) () n) := by
  unfold Pipeline.launchCred
  refine (bigSep_elim (Finset.mem_univ (csem q))).trans (Entails.of_eq (congrArg cred ?_))
  show tallyOn (cell c q) (launchCredit (Pipeline.owing fun d => tallyAt (cell (σ d) q) () n) 0 (cell c q)) = tallyAt (cell c q) () n
  unfold tallyAt
  refine congrArg _ (Finsupp.ext fun u => ?_)
  cases u
  rw [Pipeline.launchCredit_owing, Finsupp.single_eq_same, Finset.sum_eq_single (σ c)]
  · show tallyAt (cell (σ (σ c)) q) () n (cell c q) () = n
    rw [hσ, tallyAt_apply, if_pos ⟨rfl, rfl⟩]
  · intro d _ hd
    show tallyAt (cell (σ d) q) () n (cell c q) () = 0
    rw [tallyAt_apply, if_neg]
    rintro ⟨h, -⟩
    exact hd (by rw [(cell_injective h).1, hσ])
  · intro h; exact absurd (Finset.mem_univ _) h

/-- The credit for the chunks `l` on a family of cells, out of what the neighbours owe at the start. -/
theorem cred_list (σ : Dev nD → Dev nD) (hσ : ∀ c, σ (σ c) = c) (k : Fin 4) (base : Dev nD → CellTallies nD τ sig Unit) (c : Dev nD) (l : List (Fin 16)) :
    (Pipeline.launchCred (fun d => owedFrom (base d) (xferC k (σ d)) l) c : sProp 𝕄)
      ⊢ iprop(Pipeline.launchCred base c ∗ bigSepL l fun i => due k c i) := by
  induction l with
  | nil =>
    show (Pipeline.launchCred base c : sProp 𝕄) ⊢ iprop(Pipeline.launchCred base c ∗ emp)
    iintro H; isplitl [H]; · iexact H
    iempintro
  | cons i l ih =>
    rw [bigSepL_cons']
    show (Pipeline.launchCred (fun d => owedFrom (base d) (xferC k (σ d)) l + tallyAt (xferC k (σ d) i) () N) c : sProp 𝕄) ⊢ _
    rw [Pipeline.launchCred_add]
    iintro ⟨H, Hi⟩
    ihave H := ih $$ H
    icases H with ⟨Hb, Hl⟩
    isplitl [Hb]; · iexact Hb
    isplitl [Hi]
    · iapply (cred_one σ hσ (some (k, i)) N c) $$ Hi
    iexact Hl

/-- What the neighbours owe a device at the start. -/
theorem creds (c : Dev nD) : (Pipeline.launchCred owed0 c : sProp 𝕄) ⊢ credits c := by
  show (Pipeline.launchCred (fun d => owed1 d + tallyAt (barC (px d)) () 1) c : sProp 𝕄) ⊢ _
  rw [Pipeline.launchCred_add]
  show iprop(Pipeline.launchCred (fun d => owedX d chunks + tallyAt (barC (py d)) () 1) c ∗ _) ⊢ _
  rw [Pipeline.launchCred_add]
  unfold credits
  iintro ⟨⟨H, Hy⟩, Hx⟩
  ihave H := (show Pipeline.launchCred (fun d => owedX d chunks) c ⊢ _ from cred_list px px_px 1 (fun d => owedY d chunks) c chunks) $$ H
  icases H with ⟨H, H1⟩
  ihave H := (show Pipeline.launchCred (fun d => owedY d chunks) c ⊢ _ from cred_list py py_py 3 (fun _ => 0) c chunks) $$ H
  icases H with ⟨-, H3⟩
  ihave Hx := (cred_one px px_px none 1 c) $$ Hx
  ihave Hy := (cred_one py py_py none 1 c) $$ Hy
  isplitl [Hx Hy]
  · iapply (Entails.of_eq (congrArg cred (tallyAt_add (barC c) () 1 1)))
    iapply (cred_add _ _).2
    isplitl [Hx] <;> iassumption
  isplitl [H1]
  · iapply (Entails.of_eq (bigSep_chunks fun i => due 1 c i).symm) $$ H1
  iapply (Entails.of_eq (bigSep_chunks fun i => due 3 c i).symm) $$ H3

end Cert.KernelIdeal.Loop

end

end
-- ==== Proof.Launch.lean ====
module

public import proofs.«01_k».proof.Proof.Fund
public import Idealize.ShloMosaic.Lib.Pipeline.CollectiveSegs
public import Idealize.ShloMosaic.Lib.Quiescent

/-! # The run

The kernel has no pipelined window: the launch runs the body once on each device. From any memory with zero counters
it terminates without a fault, and then every device's argument is as it was, its result is `out`, and every counter
is zero again. -/

@[expose] public section

noncomputable section

namespace Cert.KernelIdeal.Loop

open Cert.KernelIdeal Cert.KernelIdeal.Gen Facts
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

attribute [local instance] Cert.KernelIdeal.Gen.facts

local notation "𝕄" => MT nD τ sig Unit (Elt F) ℕ UU ℕ

variable (m : (ℓ : Loc nD τ sig) → Buf (Elt F) ℓ) (ρ : Dev nD → PrngReg)

/-- The devices' arguments. -/
abbrev args (c : Dev nD) : Arg F := m ((c : Thread nD τ).loc main_arg0)

/-- What a device brings to the kernel from outside it. -/
def start (c : Dev nD) : sProp 𝕄 :=
  iprop(G' (args m) c ∗ levAts L lv ∗ credits c ∗ ((c : Thread nD τ).loc main_arg0 ↦{fullShare} args m c) ∗ someBuf c main_v1)

/-- What it takes out again. -/
def taken (c : Dev nD) : sProp 𝕄 :=
  iprop(((c : Thread nD τ).loc main_arg0 ↦{fullShare} args m c) ∗ ((c : Thread nD τ).loc main_v1 ↦{fullShare} out (args m) c)
    ∗ unscopedSems0 c)

/-- What a device holds before and after the call's one step. -/
def dats (_ : Fin 1) (c : Dev nD) : Dat τ (Elt F) Unit ℕ UU ℕ cfg0 c where
  A w := (w : Fin 0).elim0
  after w _ := (w : Fin 0).elim0
  Φ t := match t with
    | ⟨0, _⟩ => iprop(start m c ∗ scratch c)
    | ⟨_ + 1, _⟩ => finish (args m) c
  q _ := fullShare
  owed t := match t with
    | ⟨0, _⟩ => owed0 c
    | ⟨_ + 1, _⟩ => 0

/-- The body, from the device's asking which one it is. -/
def whole : P F := .op .deviceId fun d => work d
/-- The body the region runs. -/
theorem body_run (t : Fin cfg0.N) : defs₀ (F := F) .tc cfg0.body (cfg0.bodyArgs t (cfg0.slots t)) = whole :=
  body_eq

/-- The body's proof, in the launch library's form. -/
theorem body_obligation (c : Dev nD) : BodyObligation (dats m 0 c) (defs₀ (F := F)) 𝒱₀ () Set.univ := fun t => by
  rw [show t = t0_0 from fin_N0 t]
  rw [body_run, show (Finset.univ : Finset (Fin cfg0.W)) = ∅ from rfl, bigSep_empty, bigSep_empty]
  rw [show (dats m 0 c).Φ t0_0.castSucc = iprop(start m c ∗ scratch c) from rfl]
  rw [show (dats m 0 c).Φ t0_0.succ = finish (args m) c from rfl]
  unfold whole; rw [wp_deviceId]
  unfold Dat.owesAt Pipeline.owesWithin
  rw [show (dats m 0 c).owed t0_0.castSucc = owed0 c from rfl, show (dats m 0 c).owed t0_0.succ = 0 from rfl]
  unfold start G'
  iintro ⟨⟨⟨⟨⟨%K, HR⟩, Hm, Ht, Hl⟩, Hlev, Hc, Hx, Ho⟩, Hs⟩, ⟨%W, -, HO⟩, -⟩
  iapply (sound_work (args m) K c) $$ [HR Hm Ht Hl Hlev Hc Hx Ho Hs HO]
  · isplitl [HR Hlev]
    · unfold known; isplitl [HR] <;> iassumption
    isplitl [Hm]; · iexact Hm
    isplitl [Ht]; · iexact Ht
    isplitl [Hc]; · iexact Hc
    isplitl [Hl]; · iexact Hl
    isplitl [Hs]; · iexact Hs
    isplitl [Hx]; · iexact Hx
    isplitl [Ho]; · iexact Ho
    unfold owing; iexists W; iexact HO
  unfold owing
  iintro ⟨Hf, ⟨%W', HO⟩⟩
  isplitl [Hf]; · iexact Hf
  isplitl [HO]
  · iexists W'; isplitr; · ipureintro; exact fun _ _ => Or.inl trivial
    iexact HO
  iempintro

/-- A device's share of the launch is what its body starts from. -/
theorem start_intro (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' (args m) c)
      ⊢ |={Set.univ}=> iprop(start m c ∗ emp) := by
  rw [Pipeline.unscopedRestP_none, unscopedRest0_eq]
  unfold start
  iintro ⟨⟨Hx, Ho⟩, Hlev, Hcr, -, HG⟩
  ihave Hc := (creds (F := F) c) $$ Hcr
  imodintro
  isplitl
  · isplitl [HG]; · iexact HG
    isplitl [Hlev]; · iexact Hlev
    isplitl [Hc]; · iexact Hc
    isplitl [Hx]; · iexact Hx
    iexists _; iexact Ho
  · iempintro

/-- With its scratch buffers it is what the step takes. -/
theorem first_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  show _ ⊢ iprop(start m c ∗ scratch c)
  rw [scopedRest0_eq]
  unfold scratch
  iintro ⟨Hs, -, Hr⟩
  isplitl [Hs] <;> iassumption

/-- What the step leaves are the arrays, the counters at zero and the scratch buffers. -/
theorem last_exit (c : Dev nD) :
    (dats m 0 c).Φ (Fin.last cfg0.N) ⊢ iprop(taken m c ∗ Pipeline.ownSems0 osem c ∗ Pipeline.scopedRest cfg0.spec c) := by
  show finish (args m) c ⊢ _
  rw [scopedRest0_eq, ownSems_eq]
  unfold finish taken scratch
  rw [unscopedSems_eq]
  iintro ⟨Hx, Ho, Hb, Hl, Hv, Hs⟩
  isplitl [Hx Ho Hb]
  · isplitl [Hx]; · iexact Hx
    isplitl [Ho] <;> iassumption
  isplitl [Hv Hl]
  · isplitl [Hv] <;> iassumption
  iexact Hs

/-- What is read off the final state of a device. -/
def Reads (c : Dev nD) (s : MemSt nD τ sig (Elt F)) : Prop :=
  s.mem ((c : Thread nD τ).loc main_arg0) = args m c ∧ s.mem ((c : Thread nD τ).loc main_v1) = out (args m) c
    ∧ ∀ sm : SemLoc sig, sm.isScoped .tc = false → s.sem ((c.tc : Thread nD τ), sm) = 0

/-- What a device holds at the end is what the memory says. -/
theorem read_end (c : Dev nD) (s' : Phys nD τ sig (Elt F)) :
    iprop(taken m c ∗ emp ∗ SI s') ⊢ |={Set.univ}=> iprop(⌜Reads m c s'.mem⌝ ∗ SI s') := by
  unfold taken
  iintro ⟨⟨Hx, Ho, Hu⟩, -, HSI⟩
  ihave %hx := (SI_pointsTo_agree (st := s') (ℓ := (c : Thread nD τ).loc main_arg0) (I := Finset.univ) (q := fullShare) (f := args m c)) $$ [HSI Hx]
  · isplitl [HSI] <;> iassumption
  ihave %ho := (SI_pointsTo_agree (st := s') (ℓ := (c : Thread nD τ).loc main_v1) (I := Finset.univ) (q := fullShare) (f := out (args m) c)) $$ [HSI Ho]
  · isplitl [HSI] <;> iassumption
  imod (Pipeline.unscopedSems0_read (X := unscopedSems0 c) (c := c) fupd_intro s') $$ [HSI Hu] with ⟨%hu, HSI⟩
  · isplitl [Hu] <;> iassumption
  imodintro
  isplitr
  · ipureintro
    exact ⟨funext fun i => hx i (Finset.mem_univ i), funext fun i => ho i (Finset.mem_univ i), hu⟩
  iexact HSI

/-- The outcome: arguments kept, results computed, every counter at zero. -/
def Outcome (r : PUnit × MemSt nD τ sig (Elt F)) : Prop :=
  (∀ c : Dev nD, r.2.mem ((c : Thread nD τ).loc main_arg0) = args m c ∧ r.2.mem ((c : Thread nD τ).loc main_v1) = out (args m) c)
    ∧ r.2.sem = fun _ => 0

set_option maxRecDepth 8000 in
/-- Every weakly fair execution of the program on the four devices, from any memory with zero counters and for any
    reading of the floats, ends in that outcome. -/
theorem run_main : θ_run defs (onTc (τ := τ) (main (F := F))) ⟨m, fun _ => 0, ρ⟩ (Outcome m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := fun w => (w : Fin 0).elim0) (harr := arr_whole0) (hstage := stage_whole0)
    (hshare := fun _ w => (w : Fin 0).elim0)
    (hdistinct := winFacts0.arr_inj)
    (O₀ := owed0) (howed₀ := fun _ => rfl) (howedN := fun _ => rfl)
    (L := L) (lv := lv) (hL := L_of_ne)
    (hwaits := fun c => Pipeline.cellsWaits_intro cfgs (dats m) () 0 c fun w => (w : Fin 0).elim0)
    (G := G (args m)) (G' := G' (args m)) (u₀ := u₀)
    (hu₀ := by
      unfold u₀
      iintro Hu
      ihave H := (ownU_split _ _) $$ Hu
      icases H with ⟨HP, HX⟩
      imod (fund_cells (args m)) $$ HX with HG
      imodintro
      isplitl [HP] <;> iassumption)
    (hglob := glob (args m))
    (hA := fun _ w => (w : Fin 0).elim0) (hpf := fun _ k => k.elim0)
    (X := start m) (Y := taken m) (Z := fun _ => iprop(emp))
    (hX := start_intro m ρ) (hin := first_intro m) (hout := last_exit m)
    (QY := Reads m) (hY := read_end m)
    (hQ := fun _ h hs => ⟨fun c => ⟨(h c).2.2.1, (h c).2.2.2.1⟩, sem_eq_zero hs fun c => (h c).2.2.2.2⟩)

end Cert.KernelIdeal.Loop

end

end
-- ==== Proof.Value.lean ====
module

public import proofs.«01_k».proof.Proof.Contents
public import Idealize.ShloMosaic.Lib.Layout

/-! # The result is the reference's

When each device's argument is its block of one array, its result is its block of that array converted: row `r` of
the whole array lies with the devices whose first mesh coordinate is `r / 2048`, and that is where `src` finds it. -/

@[expose] public section

noncomputable section

namespace Cert.KernelIdeal.Loop

open Idealize.ShloMosaic Idealize.SL.Sem Cert.KernelIdeal Cert.KernelIdeal.Gen Facts

variable {F : FTy → Type} [FloatOps F]

attribute [local instance] Cert.KernelIdeal.Gen.facts

/-- The device a row comes from holds that row's block of the argument. -/
theorem src_half (c : Dev nD) (r : Nat) (hr : r < 4096) : (src c r).val / 2 = r / 2048 := by
  have hc : c.val < 4 := c.isLt
  have h1 := px_val c
  have h2 := px_val (py c)
  have h3 := py_val c
  unfold src
  split
  · omega
  · split <;> omega

/-- The first mesh coordinate of a device. -/
theorem mesh_x (c : Dev nD) : Layout.meshLin [2, 2] c.val [0] = c.val / 2 := by
  revert c; decide

/-- The whole array's blocks, converted and exchanged, are the whole converted array's blocks. -/
theorem out_block (X : Dev nD → Arg F) (w : (⟨2, ![4096, 1024]⟩ : Shape).Idx → F .f32)
    (hX : ∀ c, X c = Layout.blockN ⟨2, ![2048, 1024]⟩ ⟨2, ![4096, 1024]⟩ (Layout.meshBlock [2, 2] ![[0], []] c) w) (c : Dev nD) :
    out X c = Layout.blockN ⟨2, ![4096, 512]⟩ ⟨2, ![4096, 1024]⟩ (Layout.meshBlock [2, 2] ![[], [0]] c) (fun j => bf (w j)) := by
  funext (i : S4096x512.Idx)
  have h0 : (i 0).val < 4096 := (i 0).isLt
  have h1 : (i 1).val < 512 := (i 1).isLt
  have hc : c.val < 4 := c.isLt
  have hs := src_half c (i 0).val h0
  unfold out atX
  rw [hX, Layout.blockN_apply, Layout.blockN_apply]
  refine congrArg bf (congrArg w (funext fun a => Fin.ext ?_))
  match a with
  | ⟨0, _⟩ =>
    show Layout.meshLin [2, 2] (src c (i 0).val).val [0] * 2048 + (i 0).val % 2048 % 2048 = 0 * 4096 + (i 0).val
    rw [mesh_x]; omega
  | ⟨1, _⟩ =>
    show 0 * 1024 + (512 * (c.val / 2) + (i 1).val) % 1024 = Layout.meshLin [2, 2] c.val [0] * 512 + (i 1).val
    rw [mesh_x]; omega

end Cert.KernelIdeal.Loop

end

end
-- ==== Proof.lean ====
/- The seven claims, assembled: the frames of the kernel and of the reference, each at bit patterns and at the ideal
   values, and that the kernel's result is the reference's, at both. Every one is an instance of the kernel's run
   (`run_main`) or of the reference's. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Reference
public import proofs.«01_k».proof.Proof.Launch
public import proofs.«01_k».proof.Proof.Value
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The kernel at bit patterns ends, leaves its argument alone and every counter at zero. -/
theorem frame_kernel : Cert.quiescent_Kernel (hKernel := Cert.Kernel.Gen.facts) := fun m ρ _ =>
  (θ_run Cert.KernelIdeal.defs _ _).mono (fun _ h => ⟨fun c => (h.1 c).1, h.2⟩)
    (Cert.KernelIdeal.Loop.run_main (F := Bits) m ρ)

/-- So does the same text at the ideal values. -/
theorem frame_ideal : Cert.quiescent_KernelIdeal (hKernelIdeal := Cert.KernelIdeal.Gen.facts) := fun m ρ _ =>
  (θ_run Cert.KernelIdeal.defs _ _).mono (fun _ h => ⟨fun c => (h.1 c).1, h.2⟩)
    (Cert.KernelIdeal.Loop.run_main (F := Ideal) m ρ)

/-- The reference ends and leaves its argument alone; it has no counters. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- And so does the reference at bit patterns. -/
theorem frame_words : Cert.quiescent_Reference (hReference := Cert.Reference.Gen.facts) := fun m ρ _ =>
  (θ_run Cert.ReferenceIdeal.defs _ _).mono
    (fun r h => ⟨fun c => (h c).2, sem_eq_zero_of_no_sems (by decide) r.2⟩)
    (Cert.ReferenceIdeal.Value.run (F := Bits) m ρ)

/-- From blocks of one array, each device of the kernel ends with its block of the reference's result. -/
theorem value : Cert.algebraic_KernelIdeal_ReferenceIdeal (hKernelIdeal := Cert.KernelIdeal.Gen.facts)
    (hReferenceIdeal := Cert.ReferenceIdeal.Gen.facts) := fun m ρ m' ρ' _ hX =>
  ⟨_, (θ_run Cert.KernelIdeal.defs _ _).mono
      (fun _ h c => ⟨(h.1 c).2.trans (Cert.KernelIdeal.Loop.out_block _ _ hX c), (h.1 c).1⟩)
      (Cert.KernelIdeal.Loop.run_main (F := Ideal) m ρ),
    (θ_run Cert.ReferenceIdeal.defs _ _).mono (fun _ h => h 0)
      (Cert.ReferenceIdeal.Value.run (F := Ideal) m' ρ')⟩

/-- The same at bit patterns, word for word. -/
theorem words : Cert.bitexact_Kernel_Reference (hKernel := Cert.Kernel.Gen.facts)
    (hReference := Cert.Reference.Gen.facts) := fun m ρ m' ρ' _ hX =>
  ⟨_, (θ_run Cert.KernelIdeal.defs _ _).mono
      (fun _ h c => ⟨(h.1 c).2.trans (Cert.KernelIdeal.Loop.out_block _ _ hX c), (h.1 c).1⟩)
      (Cert.KernelIdeal.Loop.run_main (F := Bits) m ρ),
    (θ_run Cert.ReferenceIdeal.defs _ _).mono (fun _ h => h 0)
      (Cert.ReferenceIdeal.Value.run (F := Bits) m' ρ')⟩

/-- The seven claims together. -/
theorem claim : Cert.Claim :=
  ⟨Cert.Kernel.Gen.facts, Cert.KernelIdeal.Gen.facts, Cert.ReferenceIdeal.Gen.facts, Cert.Reference.Gen.facts,
    frame_kernel, frame_ideal, frame_reference, frame_words, trivial, value, words⟩

end Cert.Proof

end
